-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_inputs_KernelIdeal [hPre_scores_finite_inputs_KernelIdeal : Cert.Pre_scores_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_inputs_ReferenceIdeal [hPre_scores_finite_inputs_ReferenceIdeal : Cert.Pre_scores_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_inputs_KernelIdeal [hKernelIdeal : Cert.KernelIdeal.Facts] [hPre_scores_finite_inputs_KernelIdeal : Cert.Pre_scores_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_inputs_ReferenceIdeal [hReferenceIdeal : Cert.ReferenceIdeal.Facts] [hPre_scores_finite_inputs_ReferenceIdeal : Cert.Pre_scores_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_inputs_KernelIdeal [hKernelIdeal : Cert.KernelIdeal.Facts] [hReferenceIdeal : Cert.ReferenceIdeal.Facts] [hPre_scores_finite_inputs_KernelIdeal : Cert.Pre_scores_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_inputs_KernelIdeal : Cert.Pre_scores_finite_inputs_KernelIdeal.Facts) (hPre_scores_finite_inputs_ReferenceIdeal : Cert.Pre_scores_finite_inputs_ReferenceIdeal.Facts),
    quiescent_Kernel (hKernel := hKernel)
    ∧ quiescent_KernelIdeal (hKernelIdeal := hKernelIdeal)
    ∧ quiescent_KernelIdeal_pre_scores_finite_inputs_KernelIdeal (hKernelIdeal := hKernelIdeal) (hPre_scores_finite_inputs_KernelIdeal := hPre_scores_finite_inputs_KernelIdeal)
    ∧ quiescent_ReferenceIdeal (hReferenceIdeal := hReferenceIdeal)
    ∧ quiescent_ReferenceIdeal_pre_scores_finite_inputs_ReferenceIdeal (hReferenceIdeal := hReferenceIdeal) (hPre_scores_finite_inputs_ReferenceIdeal := hPre_scores_finite_inputs_ReferenceIdeal)
    ∧ preserves_Kernel_KernelIdeal
    ∧ algebraic_KernelIdeal_ReferenceIdeal_pre_scores_finite_inputs_KernelIdeal (hKernelIdeal := hKernelIdeal) (hReferenceIdeal := hReferenceIdeal) (hPre_scores_finite_inputs_KernelIdeal := hPre_scores_finite_inputs_KernelIdeal)
-- ==== Pre_scores_finite_inputs_KernelIdeal.lean ====
abbrev S1x256x1024 : Shape := ⟨3, ![1, 256, 1024]⟩
abbrev S1024x1024 : Shape := ⟨2, ![1024, 1024]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)

variable [Facts]

def fn {F : FTy → Type} [FloatOps F] (main_arg0 : FVec F S1x256x1024 .f32) (main_arg1 : FVec F S1024x1024 .f32) (main_arg2 : FVec F S1024x1024 .f32) (main_arg3 : FVec F S1024x1024 .f32) (main_arg4 : FVec F S1024x1024 .f32) : IVec S1x256x1024 1 × IVec S1024x1024 1 × IVec S1024x1024 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  (main_v2, main_v5, main_v8)
-- ==== Pre_scores_finite_inputs_ReferenceIdeal.lean ====
abbrev S1x256x1024 : Shape := ⟨3, ![1, 256, 1024]⟩
abbrev S1024x4096 : Shape := ⟨2, ![1024, 4096]⟩
abbrev S4096x1024 : Shape := ⟨2, ![4096, 1024]⟩
abbrev S_ : Shape := ⟨0, ![]⟩

class Facts : Prop where
  bcast_S_S1x256x1024 : S_.BroadcastsInDim S1x256x1024 (![] : Fin 0 → Fin S1x256x1024.rank)
  bcast_S_S1024x4096 : S_.BroadcastsInDim S1024x4096 (![] : Fin 0 → Fin S1024x4096.rank)

variable [Facts]

def fn {F : FTy → Type} [FloatOps F] (main_arg0 : FVec F S1x256x1024 .f32) (main_arg1 : FVec F S1024x4096 .f32) (main_arg2 : FVec F S1024x4096 .f32) (main_arg3 : FVec F S1024x4096 .f32) (main_arg4 : FVec F S4096x1024 .f32) : IVec S1x256x1024 1 × IVec S1024x4096 1 × IVec S1024x4096 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S2x4x256x128 : Shape := ⟨4, ![2, 4, 256, 128]⟩
abbrev S2x3x256x128 : Shape := ⟨4, ![2, 3, 256, 128]⟩
abbrev S256x256 : Shape := ⟨2, ![256, 256]⟩
abbrev S2x256x128 : Shape := ⟨3, ![2, 256, 128]⟩
abbrev S2x3 : Shape := ⟨2, ![2, 3]⟩
abbrev S_ : Shape := ⟨0, ![]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024x256 : Shape := ⟨2, ![1024, 256]⟩
abbrev S1x1x256x128 : Shape := ⟨4, ![1, 1, 256, 128]⟩
abbrev S1x1 : Shape := ⟨2, ![1, 1]⟩
abbrev S1x256x128 : Shape := ⟨3, ![1, 256, 128]⟩

abbrev nBuf : Space → Nat
  | .hbm => 6
  | .vmem => 11
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x256x1024, .f32⟩
  | .local _ .vmem, ⟨6, _⟩ => ⟨S2x4x256x128, .bf16⟩
  | .local _ .vmem, ⟨7, _⟩ => ⟨S2x3x256x128, .bf16⟩
  | .local _ .vmem, ⟨8, _⟩ => ⟨S256x256, .f32⟩
  | .local _ .vmem, ⟨9, _⟩ => ⟨S2x256x128, .bf16⟩
  | .local _ .vmem, ⟨10, _⟩ => ⟨S2x3x256x128, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_73 : BitVec 32 := 0#32
  let v154 : BitVec 1 := Scalar.cmpi .ne v2 c0_i32_73
  let v155 : BitVec 32 := Scalar.extui v154
  let c0_i32_74 : BitVec 32 := 0#32
  let v156 : BitVec 1 := Scalar.cmpi .ne v155 c0_i32_74
  v156

def k0_off1 (d0 : Dev nD) : Fin 2 → Nat :=
  let c0_i32_612 : BitVec 32 := 0#32
  let c0_i32_596 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c0_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  ![0, v574.toNat]
def k0_off2 (d0 : Dev nD) : Fin 4 → Nat :=
  let c0_i32_610 : BitVec 32 := 0#32
  let c0_i32_596 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c0_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let c0_i32_616 : BitVec 32 := 0#32
  let c0_i32_617 : BitVec 32 := 0#32
  ![0, v574.toNat, 0, 0]
def k0_dev4 : Nat :=
  let c0_i32_615 : BitVec 32 := 0#32
  let c0_i32_613 : BitVec 32 := 0#32
  let c1_i32_614 : BitVec 32 := 1#32
  let v580 : BitVec 32 := Scalar.muli c0_i32_613 c1_i32_614
  let v581 : BitVec 32 := Scalar.addi c0_i32_615 v580
  v581.toNat
def k0_off3 (d0 : Dev nD) : Fin 2 → Nat :=
  let c1_i32_628 : BitVec 32 := 1#32
  let c0_i32_596 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c0_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  ![1, v574.toNat]
def k0_off4 (d0 : Dev nD) : Fin 4 → Nat :=
  let c1_i32_626 : BitVec 32 := 1#32
  let c0_i32_596 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c0_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let c0_i32_632 : BitVec 32 := 0#32
  let c0_i32_633 : BitVec 32 := 0#32
  ![1, v574.toNat, 0, 0]
def k0_dev5 : Nat :=
  let c0_i32_631 : BitVec 32 := 0#32
  let c0_i32_629 : BitVec 32 := 0#32
  let c1_i32_630 : BitVec 32 := 1#32
  let v595 : BitVec 32 := Scalar.muli c0_i32_629 c1_i32_630
  let v596 : BitVec 32 := Scalar.addi c0_i32_631 v595
  v596.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_79 : BitVec 32 := 1#32
  let v163 : BitVec 1 := Scalar.cmpi .ne v2 c1_i32_79
  let v164 : BitVec 32 := Scalar.extui v163
  let c0_i32_80 : BitVec 32 := 0#32
  let v165 : BitVec 1 := Scalar.cmpi .ne v164 c0_i32_80
  v165

def k0_off5 (d0 : Dev nD) : Fin 2 → Nat :=
  let c0_i32_612 : BitVec 32 := 0#32
  let c1_i32_596 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c1_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  ![0, v574.toNat]
def k0_off6 (d0 : Dev nD) : Fin 4 → Nat :=
  let c0_i32_610 : BitVec 32 := 0#32
  let c1_i32_596 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c1_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let c0_i32_616 : BitVec 32 := 0#32
  let c0_i32_617 : BitVec 32 := 0#32
  ![0, v574.toNat, 0, 0]
def k0_dev6 : Nat :=
  let c0_i32_615 : BitVec 32 := 0#32
  let c1_i32_613 : BitVec 32 := 1#32
  let c1_i32_614 : BitVec 32 := 1#32
  let v580 : BitVec 32 := Scalar.muli c1_i32_613 c1_i32_614
  let v581 : BitVec 32 := Scalar.addi c0_i32_615 v580
  v581.toNat
def k0_off7 (d0 : Dev nD) : Fin 2 → Nat :=
  let c1_i32_628 : BitVec 32 := 1#32
  let c1_i32_596 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c1_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  ![1, v574.toNat]
def k0_off8 (d0 : Dev nD) : Fin 4 → Nat :=
  let c1_i32_626 : BitVec 32 := 1#32
  let c1_i32_596 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c1_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let c0_i32_632 : BitVec 32 := 0#32
  let c0_i32_633 : BitVec 32 := 0#32
  ![1, v574.toNat, 0, 0]
def k0_dev7 : Nat :=
  let c0_i32_631 : BitVec 32 := 0#32
  let c1_i32_629 : BitVec 32 := 1#32
  let c1_i32_630 : BitVec 32 := 1#32
  let v595 : BitVec 32 := Scalar.muli c1_i32_629 c1_i32_630
  let v596 : BitVec 32 := Scalar.addi c0_i32_631 v595
  v596.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_85 : BitVec 32 := 2#32
  let v172 : BitVec 1 := Scalar.cmpi .ne v2 c2_i32_85
  let v173 : BitVec 32 := Scalar.extui v172
  let c0_i32_86 : BitVec 32 := 0#32
  let v174 : BitVec 1 := Scalar.cmpi .ne v173 c0_i32_86
  v174

def k0_off9 (d0 : Dev nD) : Fin 2 → Nat :=
  let c0_i32_612 : BitVec 32 := 0#32
  let c2_i32_596 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c2_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  ![0, v574.toNat]
def k0_off10 (d0 : Dev nD) : Fin 4 → Nat :=
  let c0_i32_610 : BitVec 32 := 0#32
  let c2_i32_596 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c2_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let c0_i32_616 : BitVec 32 := 0#32
  let c0_i32_617 : BitVec 32 := 0#32
  ![0, v574.toNat, 0, 0]
def k0_dev8 : Nat :=
  let c0_i32_615 : BitVec 32 := 0#32
  let c2_i32_613 : BitVec 32 := 2#32
  let c1_i32_614 : BitVec 32 := 1#32
  let v580 : BitVec 32 := Scalar.muli c2_i32_613 c1_i32_614
  let v581 : BitVec 32 := Scalar.addi c0_i32_615 v580
  v581.toNat
def k0_off11 (d0 : Dev nD) : Fin 2 → Nat :=
  let c1_i32_628 : BitVec 32 := 1#32
  let c2_i32_596 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c2_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  ![1, v574.toNat]
def k0_off12 (d0 : Dev nD) : Fin 4 → Nat :=
  let c1_i32_626 : BitVec 32 := 1#32
  let c2_i32_596 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c2_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let c0_i32_632 : BitVec 32 := 0#32
  let c0_i32_633 : BitVec 32 := 0#32
  ![1, v574.toNat, 0, 0]
def k0_dev9 : Nat :=
  let c0_i32_631 : BitVec 32 := 0#32
  let c2_i32_629 : BitVec 32 := 2#32
  let c1_i32_630 : BitVec 32 := 1#32
  let v595 : BitVec 32 := Scalar.muli c2_i32_629 c1_i32_630
  let v596 : BitVec 32 := Scalar.addi c0_i32_631 v595
  v596.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_91 : BitVec 32 := 3#32
  let v181 : BitVec 1 := Scalar.cmpi .ne v2 c3_i32_91
  let v182 : BitVec 32 := Scalar.extui v181
  let c0_i32_92 : BitVec 32 := 0#32
  let v183 : BitVec 1 := Scalar.cmpi .ne v182 c0_i32_92
  v183

def k0_off13 (d0 : Dev nD) : Fin 2 → Nat :=
  let c0_i32_611 : BitVec 32 := 0#32
  let c3_i32_596 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c3_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  ![0, v574.toNat]
def k0_off14 (d0 : Dev nD) : Fin 4 → Nat :=
  let c0_i32_609 : BitVec 32 := 0#32
  let c3_i32_596 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c3_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let c0_i32_615 : BitVec 32 := 0#32
  let c0_i32_616 : BitVec 32 := 0#32
  ![0, v574.toNat, 0, 0]
def k0_dev10 : Nat :=
  let c0_i32_614 : BitVec 32 := 0#32
  let c3_i32_612 : BitVec 32 := 3#32
  let c1_i32_613 : BitVec 32 := 1#32
  let v580 : BitVec 32 := Scalar.muli c3_i32_612 c1_i32_613
  let v581 : BitVec 32 := Scalar.addi c0_i32_614 v580
  v581.toNat
def k0_off15 (d0 : Dev nD) : Fin 2 → Nat :=
  let c1_i32_627 : BitVec 32 := 1#32
  let c3_i32_596 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c3_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  ![1, v574.toNat]
def k0_off16 (d0 : Dev nD) : Fin 4 → Nat :=
  let c1_i32_625 : BitVec 32 := 1#32
  let c3_i32_596 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v563 : BitVec 32 := Scalar.subi c3_i32_596 v2
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let c0_i32_631 : BitVec 32 := 0#32
  let c0_i32_632 : BitVec 32 := 0#32
  ![1, v574.toNat, 0, 0]
def k0_dev11 : Nat :=
  let c0_i32_630 : BitVec 32 := 0#32
  let c3_i32_628 : BitVec 32 := 3#32
  let c1_i32_629 : BitVec 32 := 1#32
  let v595 : BitVec 32 := Scalar.muli c3_i32_628 c1_i32_629
  let v596 : BitVec 32 := Scalar.addi c0_i32_630 v595
  v596.toNat
def k0_dev12 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_160 : BitVec 32 := 1#32
  let v240 : BitVec 32 := Scalar.addi v2 c1_i32_160
  let c4_i32_161 : BitVec 32 := 4#32
  let c0_i32_162 : BitVec 32 := 0#32
  let v241 : BitVec 1 := Scalar.cmpi .eq c4_i32_161 c0_i32_162
  let c1_i32_163 : BitVec 32 := 1#32
  let v242 : BitVec 32 := Scalar.select v241 c1_i32_163 c4_i32_161
  let v243 : BitVec 32 := Scalar.remsi v240 v242
  let c0_i32_165 : BitVec 32 := 0#32
  let v245 : BitVec 1 := Scalar.cmpi .slt v243 c0_i32_165
  let c0_i32_166 : BitVec 32 := 0#32
  let v246 : BitVec 1 := Scalar.cmpi .slt v242 c0_i32_166
  let v247 : BitVec 1 := Scalar.xori v245 v246
  let c0_i32_164 : BitVec 32 := 0#32
  let v244 : BitVec 1 := Scalar.cmpi .ne v243 c0_i32_164
  let v248 : BitVec 1 := Scalar.andi v247 v244
  let v249 : BitVec 32 := Scalar.addi v243 v242
  let v250 : BitVec 32 := Scalar.select v248 v249 v243
  let c1_i32_174 : BitVec 32 := 1#32
  let v251 : BitVec 32 := Scalar.muli v250 c1_i32_174
  let v252 : BitVec 32 := Scalar.addi c0_i32_175 v251
  v252.toNat
def k0_dev13 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_180 : BitVec 32 := 2#32
  let v261 : BitVec 32 := Scalar.addi v2 c2_i32_180
  let c4_i32_181 : BitVec 32 := 4#32
  let c0_i32_182 : BitVec 32 := 0#32
  let v262 : BitVec 1 := Scalar.cmpi .eq c4_i32_181 c0_i32_182
  let c1_i32_183 : BitVec 32 := 1#32
  let v263 : BitVec 32 := Scalar.select v262 c1_i32_183 c4_i32_181
  let v264 : BitVec 32 := Scalar.remsi v261 v263
  let c0_i32_185 : BitVec 32 := 0#32
  let v266 : BitVec 1 := Scalar.cmpi .slt v264 c0_i32_185
  let c0_i32_186 : BitVec 32 := 0#32
  let v267 : BitVec 1 := Scalar.cmpi .slt v263 c0_i32_186
  let v268 : BitVec 1 := Scalar.xori v266 v267
  let c0_i32_184 : BitVec 32 := 0#32
  let v265 : BitVec 1 := Scalar.cmpi .ne v264 c0_i32_184
  let v269 : BitVec 1 := Scalar.andi v268 v265
  let v270 : BitVec 32 := Scalar.addi v264 v263
  let v271 : BitVec 32 := Scalar.select v269 v270 v264
  let c1_i32_194 : BitVec 32 := 1#32
  let v272 : BitVec 32 := Scalar.muli v271 c1_i32_194
  let v273 : BitVec 32 := Scalar.addi c0_i32_195 v272
  v273.toNat
def k0_dev14 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_200 : BitVec 32 := 3#32
  let v282 : BitVec 32 := Scalar.addi v2 c3_i32_200
  let c4_i32_201 : BitVec 32 := 4#32
  let c0_i32_202 : BitVec 32 := 0#32
  let v283 : BitVec 1 := Scalar.cmpi .eq c4_i32_201 c0_i32_202
  let c1_i32_203 : BitVec 32 := 1#32
  let v284 : BitVec 32 := Scalar.select v283 c1_i32_203 c4_i32_201
  let v285 : BitVec 32 := Scalar.remsi v282 v284
  let c0_i32_205 : BitVec 32 := 0#32
  let v287 : BitVec 1 := Scalar.cmpi .slt v285 c0_i32_205
  let c0_i32_206 : BitVec 32 := 0#32
  let v288 : BitVec 1 := Scalar.cmpi .slt v284 c0_i32_206
  let v289 : BitVec 1 := Scalar.xori v287 v288
  let c0_i32_204 : BitVec 32 := 0#32
  let v286 : BitVec 1 := Scalar.cmpi .ne v285 c0_i32_204
  let v290 : BitVec 1 := Scalar.andi v289 v286
  let v291 : BitVec 32 := Scalar.addi v285 v284
  let v292 : BitVec 32 := Scalar.select v290 v291 v285
  let c1_i32_214 : BitVec 32 := 1#32
  let v293 : BitVec 32 := Scalar.muli v292 c1_i32_214
  let v294 : BitVec 32 := Scalar.addi c0_i32_215 v293
  v294.toNat
def k0_dev15 (d0 : Dev nD) : Nat :=
  let c0_i32_301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_286 : BitVec 32 := 1#32
  let v356 : BitVec 32 := Scalar.addi v2 c1_i32_286
  let c4_i32_287 : BitVec 32 := 4#32
  let c0_i32_288 : BitVec 32 := 0#32
  let v357 : BitVec 1 := Scalar.cmpi .eq c4_i32_287 c0_i32_288
  let c1_i32_289 : BitVec 32 := 1#32
  let v358 : BitVec 32 := Scalar.select v357 c1_i32_289 c4_i32_287
  let v359 : BitVec 32 := Scalar.remsi v356 v358
  let c0_i32_291 : BitVec 32 := 0#32
  let v361 : BitVec 1 := Scalar.cmpi .slt v359 c0_i32_291
  let c0_i32_292 : BitVec 32 := 0#32
  let v362 : BitVec 1 := Scalar.cmpi .slt v358 c0_i32_292
  let v363 : BitVec 1 := Scalar.xori v361 v362
  let c0_i32_290 : BitVec 32 := 0#32
  let v360 : BitVec 1 := Scalar.cmpi .ne v359 c0_i32_290
  let v364 : BitVec 1 := Scalar.andi v363 v360
  let v365 : BitVec 32 := Scalar.addi v359 v358
  let v366 : BitVec 32 := Scalar.select v364 v365 v359
  let c1_i32_300 : BitVec 32 := 1#32
  let v367 : BitVec 32 := Scalar.muli v366 c1_i32_300
  let v368 : BitVec 32 := Scalar.addi c0_i32_301 v367
  v368.toNat
def k0_dev16 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_306 : BitVec 32 := 2#32
  let v377 : BitVec 32 := Scalar.addi v2 c2_i32_306
  let c4_i32_307 : BitVec 32 := 4#32
  let c0_i32_308 : BitVec 32 := 0#32
  let v378 : BitVec 1 := Scalar.cmpi .eq c4_i32_307 c0_i32_308
  let c1_i32_309 : BitVec 32 := 1#32
  let v379 : BitVec 32 := Scalar.select v378 c1_i32_309 c4_i32_307
  let v380 : BitVec 32 := Scalar.remsi v377 v379
  let c0_i32_311 : BitVec 32 := 0#32
  let v382 : BitVec 1 := Scalar.cmpi .slt v380 c0_i32_311
  let c0_i32_312 : BitVec 32 := 0#32
  let v383 : BitVec 1 := Scalar.cmpi .slt v379 c0_i32_312
  let v384 : BitVec 1 := Scalar.xori v382 v383
  let c0_i32_310 : BitVec 32 := 0#32
  let v381 : BitVec 1 := Scalar.cmpi .ne v380 c0_i32_310
  let v385 : BitVec 1 := Scalar.andi v384 v381
  let v386 : BitVec 32 := Scalar.addi v380 v379
  let v387 : BitVec 32 := Scalar.select v385 v386 v380
  let c1_i32_320 : BitVec 32 := 1#32
  let v388 : BitVec 32 := Scalar.muli v387 c1_i32_320
  let v389 : BitVec 32 := Scalar.addi c0_i32_321 v388
  v389.toNat
def k0_dev17 (d0 : Dev nD) : Nat :=
  let c0_i32_341 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_326 : BitVec 32 := 3#32
  let v398 : BitVec 32 := Scalar.addi v2 c3_i32_326
  let c4_i32_327 : BitVec 32 := 4#32
  let c0_i32_328 : BitVec 32 := 0#32
  let v399 : BitVec 1 := Scalar.cmpi .eq c4_i32_327 c0_i32_328
  let c1_i32_329 : BitVec 32 := 1#32
  let v400 : BitVec 32 := Scalar.select v399 c1_i32_329 c4_i32_327
  let v401 : BitVec 32 := Scalar.remsi v398 v400
  let c0_i32_331 : BitVec 32 := 0#32
  let v403 : BitVec 1 := Scalar.cmpi .slt v401 c0_i32_331
  let c0_i32_332 : BitVec 32 := 0#32
  let v404 : BitVec 1 := Scalar.cmpi .slt v400 c0_i32_332
  let v405 : BitVec 1 := Scalar.xori v403 v404
  let c0_i32_330 : BitVec 32 := 0#32
  let v402 : BitVec 1 := Scalar.cmpi .ne v401 c0_i32_330
  let v406 : BitVec 1 := Scalar.andi v405 v402
  let v407 : BitVec 32 := Scalar.addi v401 v400
  let v408 : BitVec 32 := Scalar.select v406 v407 v401
  let c1_i32_340 : BitVec 32 := 1#32
  let v409 : BitVec 32 := Scalar.muli v408 c1_i32_340
  let v410 : BitVec 32 := Scalar.addi c0_i32_341 v409
  v410.toNat
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_388 : BitVec 32 := 0#32
  let v443 : BitVec 1 := Scalar.cmpi .ne v2 c0_i32_388
  let v444 : BitVec 32 := Scalar.extui v443
  let c0_i32_389 : BitVec 32 := 0#32
  let v445 : BitVec 1 := Scalar.cmpi .ne v444 c0_i32_389
  v445

def k0_off17 (d0 : Dev nD) : Fin 4 → Nat :=
  let c0_604 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_596 : BitVec 32 := 0#32
  let v563 : BitVec 32 := Scalar.subi v2 c0_i32_596
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let v575 : Index := Scalar.indexCast v574
  let c0_605 : Index := 0#32
  let c0_606 : Index := 0#32
  ![0, v575.toNat, 0, 0]
def k0_cond18 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_390 : BitVec 32 := 1#32
  let v446 : BitVec 1 := Scalar.cmpi .ne v2 c1_i32_390
  let v447 : BitVec 32 := Scalar.extui v446
  let c0_i32_391 : BitVec 32 := 0#32
  let v448 : BitVec 1 := Scalar.cmpi .ne v447 c0_i32_391
  v448

def k0_off18 (d0 : Dev nD) : Fin 4 → Nat :=
  let c0_604 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_596 : BitVec 32 := 1#32
  let v563 : BitVec 32 := Scalar.subi v2 c1_i32_596
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let v575 : Index := Scalar.indexCast v574
  let c0_605 : Index := 0#32
  let c0_606 : Index := 0#32
  ![0, v575.toNat, 0, 0]
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_392 : BitVec 32 := 2#32
  let v449 : BitVec 1 := Scalar.cmpi .ne v2 c2_i32_392
  let v450 : BitVec 32 := Scalar.extui v449
  let c0_i32_393 : BitVec 32 := 0#32
  let v451 : BitVec 1 := Scalar.cmpi .ne v450 c0_i32_393
  v451

def k0_off19 (d0 : Dev nD) : Fin 4 → Nat :=
  let c0_604 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_596 : BitVec 32 := 2#32
  let v563 : BitVec 32 := Scalar.subi v2 c2_i32_596
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let v575 : Index := Scalar.indexCast v574
  let c0_605 : Index := 0#32
  let c0_606 : Index := 0#32
  ![0, v575.toNat, 0, 0]
def k0_cond20 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_394 : BitVec 32 := 3#32
  let v452 : BitVec 1 := Scalar.cmpi .ne v2 c3_i32_394
  let v453 : BitVec 32 := Scalar.extui v452
  let c0_i32_395 : BitVec 32 := 0#32
  let v454 : BitVec 1 := Scalar.cmpi .ne v453 c0_i32_395
  v454

def k0_off20 (d0 : Dev nD) : Fin 4 → Nat :=
  let c0_604 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_596 : BitVec 32 := 3#32
  let v563 : BitVec 32 := Scalar.subi v2 c3_i32_596
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let v575 : Index := Scalar.indexCast v574
  let c0_605 : Index := 0#32
  let c0_606 : Index := 0#32
  ![0, v575.toNat, 0, 0]
def k0_cond21 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_438 : BitVec 32 := 0#32
  let v479 : BitVec 1 := Scalar.cmpi .ne v2 c0_i32_438
  let v480 : BitVec 32 := Scalar.extui v479
  let c0_i32_439 : BitVec 32 := 0#32
  let v481 : BitVec 1 := Scalar.cmpi .ne v480 c0_i32_439
  v481

def k0_off21 (d0 : Dev nD) : Fin 4 → Nat :=
  let c1_604 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_596 : BitVec 32 := 0#32
  let v563 : BitVec 32 := Scalar.subi v2 c0_i32_596
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let v575 : Index := Scalar.indexCast v574
  let c0_605 : Index := 0#32
  let c0_606 : Index := 0#32
  ![1, v575.toNat, 0, 0]
def k0_cond22 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_440 : BitVec 32 := 1#32
  let v482 : BitVec 1 := Scalar.cmpi .ne v2 c1_i32_440
  let v483 : BitVec 32 := Scalar.extui v482
  let c0_i32_441 : BitVec 32 := 0#32
  let v484 : BitVec 1 := Scalar.cmpi .ne v483 c0_i32_441
  v484

def k0_off22 (d0 : Dev nD) : Fin 4 → Nat :=
  let c1_604 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_596 : BitVec 32 := 1#32
  let v563 : BitVec 32 := Scalar.subi v2 c1_i32_596
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let v575 : Index := Scalar.indexCast v574
  let c0_605 : Index := 0#32
  let c0_606 : Index := 0#32
  ![1, v575.toNat, 0, 0]
def k0_cond23 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_442 : BitVec 32 := 2#32
  let v485 : BitVec 1 := Scalar.cmpi .ne v2 c2_i32_442
  let v486 : BitVec 32 := Scalar.extui v485
  let c0_i32_443 : BitVec 32 := 0#32
  let v487 : BitVec 1 := Scalar.cmpi .ne v486 c0_i32_443
  v487

def k0_off23 (d0 : Dev nD) : Fin 4 → Nat :=
  let c1_604 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_596 : BitVec 32 := 2#32
  let v563 : BitVec 32 := Scalar.subi v2 c2_i32_596
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let v575 : Index := Scalar.indexCast v574
  let c0_605 : Index := 0#32
  let c0_606 : Index := 0#32
  ![1, v575.toNat, 0, 0]
def k0_cond24 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_444 : BitVec 32 := 3#32
  let v488 : BitVec 1 := Scalar.cmpi .ne v2 c3_i32_444
  let v489 : BitVec 32 := Scalar.extui v488
  let c0_i32_445 : BitVec 32 := 0#32
  let v490 : BitVec 1 := Scalar.cmpi .ne v489 c0_i32_445
  v490

def k0_off24 (d0 : Dev nD) : Fin 4 → Nat :=
  let c1_604 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_596 : BitVec 32 := 3#32
  let v563 : BitVec 32 := Scalar.subi v2 c3_i32_596
  let c4_i32_597 : BitVec 32 := 4#32
  let c0_i32_598 : BitVec 32 := 0#32
  let v564 : BitVec 1 := Scalar.cmpi .eq c4_i32_597 c0_i32_598
  let c1_i32_599 : BitVec 32 := 1#32
  let v565 : BitVec 32 := Scalar.select v564 c1_i32_599 c4_i32_597
  let v566 : BitVec 32 := Scalar.remsi v563 v565
  let c0_i32_601 : BitVec 32 := 0#32
  let v568 : BitVec 1 := Scalar.cmpi .slt v566 c0_i32_601
  let c0_i32_602 : BitVec 32 := 0#32
  let v569 : BitVec 1 := Scalar.cmpi .slt v565 c0_i32_602
  let v570 : BitVec 1 := Scalar.xori v568 v569
  let c0_i32_600 : BitVec 32 := 0#32
  let v567 : BitVec 1 := Scalar.cmpi .ne v566 c0_i32_600
  let v571 : BitVec 1 := Scalar.andi v570 v567
  let v572 : BitVec 32 := Scalar.addi v566 v565
  let v573 : BitVec 32 := Scalar.select v571 v572 v566
  let c1_i32_603 : BitVec 32 := 1#32
  let v574 : BitVec 32 := Scalar.subi v573 c1_i32_603
  let v575 : Index := Scalar.indexCast v574
  let c0_605 : Index := 0#32
  let c0_606 : Index := 0#32
  ![1, v575.toNat, 0, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x1024 : Shape := ⟨3, ![1, 256, 1024]⟩
abbrev S1024x4096 : Shape := ⟨2, ![1024, 4096]⟩
abbrev S4096x1024 : Shape := ⟨2, ![4096, 1024]⟩
abbrev S1x256x4096 : Shape := ⟨3, ![1, 256, 4096]⟩
abbrev S1x256x32x128 : Shape := ⟨4, ![1, 256, 32, 128]⟩
abbrev S_ : Shape := ⟨0, ![]⟩
abbrev S1x32x256x1 : Shape := ⟨4, ![1, 32, 256, 1]⟩
abbrev S1x32x256x256 : Shape := ⟨4, ![1, 32, 256, 256]⟩
abbrev S1x32x256 : Shape := ⟨3, ![1, 32, 256]⟩
abbrev S1x256x32x1 : Shape := ⟨4, ![1, 256, 32, 1]⟩
abbrev S1x32x128x256 : Shape := ⟨4, ![1, 32, 128, 256]⟩

abbrev nBuf : Space → Nat
  | .hbm => 46
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S1x256x4096, .f32⟩
  | .hbm, ⟨6, _⟩ => ⟨S1x256x32x128, .f32⟩
  | .hbm, ⟨7, _⟩ => ⟨S1x256x4096, .f32⟩
  | .hbm, ⟨8, _⟩ => ⟨S1x256x32x128, .f32⟩
  | .hbm, ⟨9, _⟩ => ⟨S1x256x4096, .f32⟩
  | .hbm, ⟨10, _⟩ => ⟨S1x256x32x128, .f32⟩
  | .hbm, ⟨11, _⟩ => ⟨S_, .f32⟩
  | .hbm, ⟨12, _⟩ => ⟨S1x256x32x128, .f32⟩
  | .hbm, ⟨13, _⟩ => ⟨S_, .f32⟩
  | .hbm, ⟨14, _⟩ => ⟨S1x32x256x1, .f32⟩
  | .hbm, ⟨15, _⟩ => ⟨S_, .f32⟩
  | .hbm, ⟨16, _⟩ => ⟨S1x32x256x1, .f32⟩
  | .hbm, ⟨17, _⟩ => ⟨S1x32x256x256, .f32⟩
  | .hbm, ⟨18, _⟩ => ⟨S_, .f32⟩
  | .hbm, ⟨19, _⟩ => ⟨S1x32x256x256, .f32⟩
  | .hbm, ⟨20, _⟩ => ⟨S1x32x256x256, .f32⟩
  | .hbm, ⟨21, _⟩ => ⟨S_, .f32⟩
  | .hbm, ⟨22, _⟩ => ⟨S1x32x256, .f32⟩
  | .hbm, ⟨23, _⟩ => ⟨S1x32x256x1, .f32⟩
  | .hbm, ⟨24, _⟩ => ⟨S1x32x256x1, .f32⟩
  | .hbm, ⟨25, _⟩ => ⟨S1x32x256x1, .f32⟩
  | .hbm, ⟨26, _⟩ => ⟨S1x32x256x1, .f32⟩
  | .hbm, ⟨27, _⟩ => ⟨S1x32x256x256, .f32⟩
  | .hbm, ⟨28, _⟩ => ⟨S1x32x256x256, .f32⟩
  | .hbm, ⟨29, _⟩ => ⟨S1x32x256x256, .f32⟩
  | .hbm, ⟨30, _⟩ => ⟨S1x32x256x1, .f32⟩
  | .hbm, ⟨31, _⟩ => ⟨S_, .f32⟩
  | .hbm, ⟨32, _⟩ => ⟨S1x32x256, .f32⟩
  | .hbm, ⟨33, _⟩ => ⟨S1x32x256x1, .f32⟩
  | .hbm, ⟨34, _⟩ => ⟨S1x32x256x1, .f32⟩
  | .hbm, ⟨35, _⟩ => ⟨S1x256x32x1, .f32⟩
  | .hbm, ⟨36, _⟩ => ⟨S1x256x32x128, .f32⟩
  | .hbm, ⟨37, _⟩ => ⟨S1x256x32x128, .f32⟩
  | .hbm, ⟨38, _⟩ => ⟨S1x32x128x256, .f32⟩
  | .hbm, ⟨39, _⟩ => ⟨S1x256x32x128, .f32⟩
  | .hbm, ⟨40, _⟩ => ⟨S1x256x32x128, .f32⟩
  | .hbm, ⟨41, _⟩ => ⟨S1x256x32x1, .f32⟩
  | .hbm, ⟨42, _⟩ => ⟨S1x256x32x128, .f32⟩
  | .hbm, ⟨43, _⟩ => ⟨S1x256x32x128, .f32⟩
  | .hbm, ⟨44, _⟩ => ⟨S1x256x4096, .f32⟩
  | .hbm, ⟨45, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Slots.lean ====
/-
# The pieces of the kernel's buffers

Every scratch buffer of the kernel is used piecewise: the send buffer is eight blocks (a half and a target each), the two
landing buffers six (a half and a slot each), the buffer of rounded sums two halves, the sum buffer two halves of columns,
the result eight column blocks. This module names the pieces as rectangles, shows that each family is disjoint and
covers its buffer, and gives the rules of the statements that touch one piece: a load, a store.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's, whose duties are named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The buffers -/

/-- The buffer a device sends its partial products from. -/
abbrev sM : Memref sig .tc .vmem S2x4x256x128 .bf16 := Memref.whole cc0_scratch0
/-- The buffer its peers' partial products land in. -/
abbrev rM : Memref sig .tc .vmem S2x3x256x128 .bf16 := Memref.whole cc0_scratch1
/-- Its own partial product. -/
abbrev oM : Memref sig .tc .vmem S256x256 .f32 := Memref.whole cc0_scratch2
/-- Its finished sum, rounded, sent to the peers. -/
abbrev bM : Memref sig .tc .vmem S2x256x128 .bf16 := Memref.whole cc0_scratch3
/-- The buffer its peers' finished sums land in. -/
abbrev gM : Memref sig .tc .vmem S2x3x256x128 .bf16 := Memref.whole cc0_scratch4
/-- The staged operands and the staged result. -/
abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev wkM : Memref sig .tc .vmem S1024x1024 .f32 := Memref.whole cc0_stg3_0
abbrev wvM : Memref sig .tc .vmem S1024x1024 .f32 := Memref.whole cc0_stg4_0
abbrev yM : Memref sig .tc .vmem S1x256x1024 .f32 := Memref.whole cc0_stg5_0

/-! ## The pieces -/

theorem inbS (w : Fin 2) (t : Fin 4) : ∀ a, (![w.val, t.val, 0, 0] : Fin 4 → Nat) a + S1x1x256x128.size a ≤ S2x4x256x128.size a := by
  revert w t; decide
theorem inbR (w : Fin 2) (j : Fin 3) : ∀ a, (![w.val, j.val, 0, 0] : Fin 4 → Nat) a + S1x1x256x128.size a ≤ S2x3x256x128.size a := by
  revert w j; decide
theorem inbB (w : Fin 2) : ∀ a, (![w.val, 0, 0] : Fin 3 → Nat) a + S1x256x128.size a ≤ S2x256x128.size a := by
  revert w; decide
theorem inbO (w : Fin 2) : ∀ a, (![0, 128 * w.val] : Fin 2 → Nat) a + S256x128.size a ≤ S256x256.size a := by
  revert w; decide
theorem inbY (w : Fin 2) (t : Fin 4) : ∀ a, (![0, 0, 256 * t.val + 128 * w.val] : Fin 3 → Nat) a + S1x256x128.size a ≤ S1x256x1024.size a := by
  revert w t; decide
theorem inbW (t : Fin 4) : ∀ a, (![0, 256 * t.val] : Fin 2 → Nat) a + S1024x256.size a ≤ S1024x1024.size a := by
  revert t; decide

abbrev rS (x : Fin 2 × Fin 4) : Rect S2x4x256x128 := Rect.unit (s := S2x4x256x128) ![x.1.val, x.2.val, 0, 0] S1x1x256x128.size (inbS x.1 x.2)
abbrev rR (x : Fin 2 × Fin 3) : Rect S2x3x256x128 := Rect.unit (s := S2x3x256x128) ![x.1.val, x.2.val, 0, 0] S1x1x256x128.size (inbR x.1 x.2)
abbrev rB (w : Fin 2) : Rect S2x256x128 := Rect.unit (s := S2x256x128) ![w.val, 0, 0] S1x256x128.size (inbB w)
abbrev rO (w : Fin 2) : Rect S256x256 := Rect.unit (s := S256x256) ![0, 128 * w.val] S256x128.size (inbO w)
abbrev rY (x : Fin 2 × Fin 4) : Rect S1x256x1024 := Rect.unit (s := S1x256x1024) ![0, 0, 256 * x.2.val + 128 * x.1.val] S1x256x128.size (inbY x.1 x.2)
abbrev rW (t : Fin 4) : Rect S1024x1024 := Rect.unit (s := S1024x1024) ![0, 256 * t.val] S1024x256.size (inbW t)

theorem rS_disj (x y : Fin 2 × Fin 4) (h : x ≠ y) : Disjoint (rS x).set (rS y).set := by
  obtain ⟨w, t⟩ := x; obtain ⟨w', t'⟩ := y
  by_cases hw : w = w'
  · have ht : t.val ≠ t'.val := fun e => h (by rw [hw, Fin.ext e])
    refine Rect.unit_disjoint (1 : Fin 4) ?_
    show t.val + 1 ≤ t'.val ∨ t'.val + 1 ≤ t.val
    omega
  · have hw' : w.val ≠ w'.val := fun e => hw (Fin.ext e)
    refine Rect.unit_disjoint (0 : Fin 4) ?_
    show w.val + 1 ≤ w'.val ∨ w'.val + 1 ≤ w.val
    omega

theorem rR_disj (x y : Fin 2 × Fin 3) (h : x ≠ y) : Disjoint (rR x).set (rR y).set := by
  obtain ⟨w, t⟩ := x; obtain ⟨w', t'⟩ := y
  by_cases hw : w = w'
  · have ht : t.val ≠ t'.val := fun e => h (by rw [hw, Fin.ext e])
    refine Rect.unit_disjoint (1 : Fin 4) ?_
    show t.val + 1 ≤ t'.val ∨ t'.val + 1 ≤ t.val
    omega
  · have hw' : w.val ≠ w'.val := fun e => hw (Fin.ext e)
    refine Rect.unit_disjoint (0 : Fin 4) ?_
    show w.val + 1 ≤ w'.val ∨ w'.val + 1 ≤ w.val
    omega

theorem rB_disj (w w' : Fin 2) (h : w ≠ w') : Disjoint (rB w).set (rB w').set := by
  have hw' : w.val ≠ w'.val := fun e => h (Fin.ext e)
  refine Rect.unit_disjoint (0 : Fin 3) ?_
  show w.val + 1 ≤ w'.val ∨ w'.val + 1 ≤ w.val
  omega

theorem rY_disj (x y : Fin 2 × Fin 4) (h : x ≠ y) : Disjoint (rY x).set (rY y).set := by
  obtain ⟨w, t⟩ := x; obtain ⟨w', t'⟩ := y
  have h' : w.val ≠ w'.val ∨ t.val ≠ t'.val := by
    by_contra hn
    rw [not_or, not_not, not_not] at hn
    exact h (by rw [Fin.ext hn.1, Fin.ext hn.2])
  refine Rect.unit_disjoint (2 : Fin 3) ?_
  show 256 * t.val + 128 * w.val + 128 ≤ 256 * t'.val + 128 * w'.val ∨ 256 * t'.val + 128 * w'.val + 128 ≤ 256 * t.val + 128 * w.val
  omega

theorem rS_cov : (Finset.univ : Finset (Fin 2 × Fin 4)).biUnion (fun x => (rS x).set) = Finset.univ := by
  refine Finset.eq_univ_of_forall fun i => Finset.mem_biUnion.mpr ⟨(i 0, i 1), Finset.mem_univ _, ?_⟩
  refine Rect.mem_set_unit.mpr fun a => ?_
  fin_cases a
  · exact ⟨le_refl _, Nat.lt_succ_self _⟩
  · exact ⟨le_refl _, Nat.lt_succ_self _⟩
  · exact ⟨Nat.zero_le _, by have := (i 2).isLt; exact lt_of_lt_of_eq this rfl⟩
  · exact ⟨Nat.zero_le _, by have := (i 3).isLt; exact lt_of_lt_of_eq this rfl⟩

theorem rR_cov : (Finset.univ : Finset (Fin 2 × Fin 3)).biUnion (fun x => (rR x).set) = Finset.univ := by
  refine Finset.eq_univ_of_forall fun i => Finset.mem_biUnion.mpr ⟨(i 0, i 1), Finset.mem_univ _, ?_⟩
  refine Rect.mem_set_unit.mpr fun a => ?_
  fin_cases a
  · exact ⟨le_refl _, Nat.lt_succ_self _⟩
  · exact ⟨le_refl _, Nat.lt_succ_self _⟩
  · exact ⟨Nat.zero_le _, by have := (i 2).isLt; exact lt_of_lt_of_eq this rfl⟩
  · exact ⟨Nat.zero_le _, by have := (i 3).isLt; exact lt_of_lt_of_eq this rfl⟩

theorem rB_cov : (Finset.univ : Finset (Fin 2)).biUnion (fun x => (rB x).set) = Finset.univ := by
  refine Finset.eq_univ_of_forall fun i => Finset.mem_biUnion.mpr ⟨i 0, Finset.mem_univ _, ?_⟩
  refine Rect.mem_set_unit.mpr fun a => ?_
  fin_cases a
  · exact ⟨le_refl _, Nat.lt_succ_self _⟩
  · exact ⟨Nat.zero_le _, by have := (i 1).isLt; exact lt_of_lt_of_eq this rfl⟩
  · exact ⟨Nat.zero_le _, by have := (i 2).isLt; exact lt_of_lt_of_eq this rfl⟩

/-- The half and the column block that hold column `n`. -/
def yAt (i : S1x256x1024.Idx) : Fin 2 × Fin 4 :=
  (⟨(i 2).val % 256 / 128, by omega⟩, ⟨(i 2).val / 256, by have : (i 2).val < 1024 := (i 2).isLt; omega⟩)

theorem yAt_mem (i : S1x256x1024.Idx) : i ∈ (rY (yAt i)).set := by
  refine Rect.mem_set_unit.mpr fun a => ?_
  fin_cases a
  · exact ⟨Nat.zero_le _, by have := (i 0).isLt; exact lt_of_lt_of_eq this rfl⟩
  · exact ⟨Nat.zero_le _, by have := (i 1).isLt; exact lt_of_lt_of_eq this rfl⟩
  · show 256 * ((i 2).val / 256) + 128 * ((i 2).val % 256 / 128) ≤ (i 2).val
      ∧ (i 2).val < 256 * ((i 2).val / 256) + 128 * ((i 2).val % 256 / 128) + 128
    omega

theorem rY_cov : (Finset.univ : Finset (Fin 2 × Fin 4)).biUnion (fun x => (rY x).set) = Finset.univ :=
  Finset.eq_univ_of_forall fun i => Finset.mem_biUnion.mpr ⟨yAt i, Finset.mem_univ _, yAt_mem i⟩

/-! ## Owning a piece -/

section Piece
variable {sp : Space} {s : Shape} {e : EltTy}

/-- Device `c` owns, at share `q`, the piece `r` of the buffer at contents `X`. -/
def piece (c : Dev nD) (M : Memref sig .tc sp s e) (r : Rect s) (q : PosShare TreeShare) (X : r.shape.Idx → Elt F e) : sProp 𝕄 :=
  iprop(∃ f : Buf (Elt F) ((M.access r).loc (c : Thread nD τ)), ⌜(M.access r).read (Elt F) f = X⌝ ∗ ((M.access r).loc (c : Thread nD τ) ↦[(M.access r).set]{q} f))

/-- Device `c` owns the piece `r` of the buffer, at some contents. -/
def anyPiece (c : Dev nD) (M : Memref sig .tc sp s e) (r : Rect s) : sProp 𝕄 :=
  iprop(∃ f : Buf (Elt F) ((M.access r).loc (c : Thread nD τ)), ((M.access r).loc (c : Thread nD τ) ↦[(M.access r).set]{fullShare} f))

theorem piece_any (c : Dev nD) (M : Memref sig .tc sp s e) (r : Rect s) (X : r.shape.Idx → Elt F e) :
    piece c M r fullShare X ⊢ (anyPiece c M r : sProp 𝕄) := by
  unfold piece anyPiece; iintro ⟨%f, %h, H⟩; iexists f; iexact H

instance piece_storable (c : Dev nD) (M : Memref sig .tc sp s e) (r : Rect s) (q : PosShare TreeShare) (X : r.shape.Idx → Elt F e) :
    BI.Storable (upEmb : UEmb _ 𝕄) (piece c M r q X) := by unfold piece; infer_instance
instance anyPiece_storable (c : Dev nD) (M : Memref sig .tc sp s e) (r : Rect s) :
    BI.Storable (upEmb : UEmb _ 𝕄) (anyPiece (F := F) c M r) := by unfold anyPiece; infer_instance

/-- A load of a piece: the program continues at the piece's contents. -/
theorem wp_load_piece (c : Dev nD) {cs : CoreSpace} {M : Memref sig (c : Thread nD τ).2.kind cs s e} {r : Rect s} {hl : M.view.LoadsAt r} {α : Type} {Q : α → sProp 𝕄}
    {k : (r.shape.Idx → Elt F e) → Prog (TpuEff nD τ sig (Elt F) Λ₀ .tc) α} {q : PosShare TreeShare} {X : r.shape.Idx → Elt F e} :
    piece c M r q X ⊢ iprop((piece c M r q X -∗ wp frame (wpE (defs₀ (F := F)) 𝒱₀ (c : Thread nD τ) none) Set.univ (k X) Q)
      -∗ wp frame (wpE (defs₀ (F := F)) 𝒱₀ (c : Thread nD τ) none) Set.univ (.op (.load M r hl) k) Q) := by
  unfold piece; iintro ⟨%f, %hf, H⟩ Hk
  iapply (wp_load_rect 𝒱₀ (c : Thread nD τ) none Set.univ (m := M) (r := r) (Finset.Subset.refl _)) $$ H
  iintro H
  rw [hf]
  iapply Hk
  iexists f
  isplitr; · ipureintro; exact hf
  iexact H

/-- A load whose result the program does not use: any contents will do. -/
theorem wp_load_any (c : Dev nD) {cs : CoreSpace} {M : Memref sig (c : Thread nD τ).2.kind cs s e} {r : Rect s} {hl : M.view.LoadsAt r} {α : Type} {Q : α → sProp 𝕄}
    {k : (r.shape.Idx → Elt F e) → Prog (TpuEff nD τ sig (Elt F) Λ₀ .tc) α} :
    anyPiece c M r ⊢ iprop((∀ X, anyPiece c M r -∗ wp frame (wpE (defs₀ (F := F)) 𝒱₀ (c : Thread nD τ) none) Set.univ (k X) Q)
      -∗ wp frame (wpE (defs₀ (F := F)) 𝒱₀ (c : Thread nD τ) none) Set.univ (.op (.load M r hl) k) Q) := by
  unfold anyPiece; iintro ⟨%f, H⟩ Hk
  iapply (wp_load_rect 𝒱₀ (c : Thread nD τ) none Set.univ (m := M) (r := r) (Finset.Subset.refl _)) $$ H
  iintro H
  iapply Hk
  iexists f
  iexact H

/-- A store of a whole piece: it holds what was stored. -/
theorem wp_store_piece (c : Dev nD) {cs : CoreSpace} {M : Memref sig (c : Thread nD τ).2.kind cs s e} {r : Rect s} {x : r.shape.Idx → Elt F e}
    {hx : (M.access r).Stores Finset.univ} {hm : (Finset.univ : Finset r.shape.Idx) = Finset.univ ∨ ∀ a, r.stride a = 1} {α : Type} {Q : α → sProp 𝕄}
    {k : PUnit → Prog (TpuEff nD τ sig (Elt F) Λ₀ .tc) α} :
    anyPiece c M r ⊢ iprop((piece c M r fullShare x -∗ wp frame (wpE (defs₀ (F := F)) 𝒱₀ (c : Thread nD τ) none) Set.univ (k ⟨⟩) Q)
      -∗ wp frame (wpE (defs₀ (F := F)) 𝒱₀ (c : Thread nD τ) none) Set.univ (.op (.store M r x Finset.univ hx hm) k) Q) := by
  unfold piece anyPiece; iintro ⟨%f, H⟩ Hk
  iapply (wp_store 𝒱₀ (c : Thread nD τ) none Set.univ (m := M) (r := r) (Mk := Finset.univ) (S := (M.access r).set)
    (Finset.Subset.refl _)) $$ H
  iintro H
  iapply Hk
  iexists _
  isplitr; swap; · iexact H
  ipureintro
  exact View.read_write_univ _ _

end Piece

end Cert.KernelIdeal.Hand

end
-- ==== Proof.Schedule.lean ====
/-
# The protocol between the devices

Twenty-five semaphores per device. The barrier counts three units, one from each peer; each of the twenty-four transfer
semaphores counts one landing of a block. Device `c`'s peer at distance `j + 1` is `pr c j`; what lands in slot `j` of a
device comes from `sd c j`, whose `pr · j` it is.

* barrier of `c`, duty `j` (paid by `pr c j`): the four landing slots `j` of that peer, so that `c` may write into them;
* send semaphore `(w, j)` of the first exchange: the block of the send buffer that went to `pr c j`;
* receive semaphore `(w, j)` of the first exchange: slot `(w, j)`, holding half `w` of the partial product of `sd c j` for `c`;
* send semaphore `(w, j)` of the second exchange: a share of half `w` of the device's own rounded sum;
* receive semaphore `(w, j)` of the second exchange: slot `(w, j)`, holding half `w` of the rounded sum of `sd c j`.

A device signals its barrier duties first, waits on its own barrier, then sends and receives in the order of the exchanges:
the levels are 1 for a barrier, 2 and 3 for the receive semaphores of the two exchanges, 0 for everything else.
-/
module

public import proofs.«01_k».proof.Proof.Slots

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The devices around the mesh -/

set_option backward.proofsInPublic true in
/-- The device `j + 1` after `c`. -/
def pr (c : Dev nD) (j : Fin 3) : Dev nD := ⟨(c.val + j.val + 1) % 4, Nat.mod_lt _ (by decide)⟩
set_option backward.proofsInPublic true in
/-- The device `j + 1` before `c`. -/
def sd (c : Dev nD) (j : Fin 3) : Dev nD := ⟨(c.val + (3 - j.val)) % 4, Nat.mod_lt _ (by decide)⟩
set_option backward.proofsInPublic true in
/-- The distance from `c` to `t`, less one. -/
def slot (c t : Dev nD) : Fin 3 := ⟨(t.val + 3 - c.val) % 4 % 3, Nat.mod_lt _ (by decide)⟩

theorem pr_sd (c : Dev nD) (j : Fin 3) : pr (sd c j) j = c := by revert c j; decide
theorem sd_pr (c : Dev nD) (j : Fin 3) : sd (pr c j) j = c := by revert c j; decide
theorem pr_slot (c t : Dev nD) (h : c ≠ t) : pr c (slot c t) = t := by revert c t; decide
theorem sd_slot (c t : Dev nD) (h : c ≠ t) : sd t (slot c t) = c := by revert c t; decide
theorem slot_pr (c : Dev nD) (j : Fin 3) : slot c (pr c j) = j := by revert c j; decide
theorem ne_pr (c : Dev nD) (j : Fin 3) : c ≠ pr c j := by revert c j; decide

/-- Moving every device `j + 1` on. -/
def around (j : Fin 3) : Dev nD ≃ Dev nD := ⟨fun c => pr c j, fun c => sd c j, fun c => sd_pr c j, fun c => pr_sd c j⟩

/-! ## The semaphores -/

/-- The runtime's barrier semaphore. -/
abbrev barS : Sem sig := (SemArray.scalar (sig.barrier 0 rfl) : Sems sig S_).sem

/-- The four arrays of transfer semaphores: sends and landings of the first exchange, then of the second. -/
abbrev semArr (k : Fin 4) : DmaSems sig S2x3 := match k with
  | 0 => cc0_scratch5 | 1 => cc0_scratch6 | 2 => cc0_scratch7 | 3 => cc0_scratch8

/-- The semaphore of an array at an offset. -/
abbrev semAt (A : DmaSems sig S2x3) (off : Fin 2 → Nat) (inb : ∀ a, off a + S1x1.size a ≤ S2x3.size a) : DmaSem sig :=
  ((A.slice (Rect.unit (s := S2x3) off S1x1.size inb)).squeeze S_ squeezes_S1x1_S_).sem

theorem inbD (w : Fin 2) (j : Fin 3) : ∀ a, (![w.val, j.val] : Fin 2 → Nat) a + S1x1.size a ≤ S2x3.size a := by
  revert w j; decide

/-- The transfer semaphores by exchange and direction, half, slot. -/
abbrev DK : Type := Fin 4 × Fin 2 × Fin 3
def dsem (x : DK) : DmaSem sig := semAt (semArr x.1) ![x.2.1.val, x.2.2.val] (inbD x.2.1 x.2.2)

set_option backward.proofsInPublic true in
/-- Which transfer semaphore a location of the pool is, if any. -/
def dec (q : DmaSem sig) : Option DK :=
  if 6 ≤ q.val then some (⟨(q.val - 6) / 6 % 4, Nat.mod_lt _ (by decide)⟩, ⟨(q.val - 6) / 3 % 2, Nat.mod_lt _ (by decide)⟩, ⟨(q.val - 6) % 3, Nat.mod_lt _ (by decide)⟩)
  else none

theorem dec_dsem (x : DK) : dec (dsem x) = some x := by revert x; decide
theorem dsem_inj : Function.Injective dsem := fun x y h => by
  have := congrArg dec h; rw [dec_dsem, dec_dsem] at this; exact Option.some.inj this

/-- All semaphores of the protocol: the barrier and the transfer semaphores. -/
abbrev CK : Type := Option DK
def csem (k : CK) : SemLoc sig := match k with
  | none => .reg barS
  | some x => .dma (dsem x)
abbrev cell (c : Dev nD) (k : CK) : GSem nD τ sig := ((c : Thread nD τ), csem k)

theorem csem_inj : Function.Injective csem := fun a b h => by
  cases a with
  | none => cases b with
    | none => rfl
    | some y => cases h
  | some x => cases b with
    | none => cases h
    | some y => exact congrArg some (dsem_inj (SemLoc.dma.inj h))

theorem cell_inj {c c' : Dev nD} {k k' : CK} (h : cell c k = cell c' k') : c = c' ∧ k = k' :=
  ⟨congrArg (fun g : GSem nD τ sig => g.1.1) h, csem_inj (congrArg Prod.snd h)⟩

/-- The credit of one block's landing. -/
def N : ℕ := sig.dmaCredit .tc ((Kind.tc).table .vmem) (cc0_scratch1 : Ref sig .tc).idx S256x128 .bf16

/-! ## The contents -/

section Values
variable (m : (ℓ : Loc nD τ sig) → Buf (Elt F) ℓ)

/-- The operands as staged on device `c`. -/
def xv (c : Dev nD) : (cc0_stg0_0 : Ref sig .tc).ty.Contents (Elt F) := (win0_0.blk (0 : Fin 1)).view.read (Elt F) (m ((c : Thread nD τ).loc main_arg0))
def wqv (c : Dev nD) : (cc0_stg1_0 : Ref sig .tc).ty.Contents (Elt F) := (win0_1.blk (0 : Fin 1)).view.read (Elt F) (m ((c : Thread nD τ).loc main_arg1))
def wov (c : Dev nD) : (cc0_stg2_0 : Ref sig .tc).ty.Contents (Elt F) := (win0_2.blk (0 : Fin 1)).view.read (Elt F) (m ((c : Thread nD τ).loc main_arg4))
def wkv (c : Dev nD) : (cc0_stg3_0 : Ref sig .tc).ty.Contents (Elt F) := (win0_3.blk (0 : Fin 1)).view.read (Elt F) (m ((c : Thread nD τ).loc main_arg2))
def wvv (c : Dev nD) : (cc0_stg4_0 : Ref sig .tc).ty.Contents (Elt F) := (win0_4.blk (0 : Fin 1)).view.read (Elt F) (m ((c : Thread nD τ).loc main_arg3))

/-- Device `c`'s queries, keys and values, all its heads side by side. -/
def qv (c : Dev nD) : FVec F S256x1024 .f32 := k0_pay10 (xv m c) (wqv m c)
def kv (c : Dev nD) : FVec F S256x1024 .f32 := k0_pay11 (xv m c) (wkv m c)
def vv (c : Dev nD) : FVec F S256x1024 .f32 := k0_pay12 (xv m c) (wvv m c)

/-- Device `c`'s attention output, all its heads side by side. -/
def attn (c : Dev nD) : FVec F S256x1024 .f32 :=
  k0_pay23 (qv m c) (kv m c) (vv m c)
    (k0_pay16 (k0_pay14 (xv m c) (wqv m c) (wkv m c) (wvv m c)) (k0_pay15 (xv m c) (wqv m c) (wkv m c)))
    (k0_pay17 (qv m c) (kv m c) (vv m c)) (k0_pay18 (qv m c) (kv m c) (vv m c)) (k0_pay19 (qv m c) (kv m c) (vv m c))
    (k0_pay20 (vv m c)) (k0_pay21 (qv m c) (kv m c)) (k0_pay22 (qv m c) (kv m c))

/-- The columns of device `c`'s part of the output weight that belong to target `t`. -/
def woCols (t : Fin 4) (c : Dev nD) : Vec F S1024x256 .f32 := (woM.access (rW t)).read (Elt F) (wov m c)

/-- Device `c`'s partial product for target `t`. -/
def chunk (t : Fin 4) (c : Dev nD) : FVec F S256x256 .f32 := k0_pay27 (attn m c) (woCols m t c)

/-- Half `w` of that, rounded, as it is sent. -/
def sendVal (x : Fin 2 × Fin 4) (c : Dev nD) : FVec F S1x1x256x128 .bf16 :=
  if x.1 = 0 then k0_pay1 (chunk m x.2 c) else k0_pay25 (k0_pay2 (chunk m x.2 c))

/-- What lands in slot `(w, j)` of device `c` in the first exchange. -/
def rsVal (x : Fin 2 × Fin 3) (c : Dev nD) : FVec F S1x1x256x128 .bf16 := sendVal m (x.1, c) (sd c x.2)

/-- Device `c`'s own partial product as stored, and half `w` of it. -/
def ownSt (c : Dev nD) : FVec F S256x256 .f32 := k0_pay26 (chunk m c c)
def ownHalf (w : Fin 2) (c : Dev nD) : Vec F S256x128 .f32 := (oM.access (rO w)).read (Elt F) (ownSt m c)

/-- Half `w` of device `c`'s block of the result: its own part and the three landed ones. -/
def total (w : Fin 2) (c : Dev nD) : FVec F S256x128 .f32 :=
  k0_pay36 (ownHalf m w c) (rsVal m (w, 0) c) (rsVal m (w, 1) c) (rsVal m (w, 2) c)

/-- That, rounded, as it is sent in the second exchange; -/
def bVal (w : Fin 2) (c : Dev nD) : FVec F S1x256x128 .bf16 := k0_pay41 (total m w c)

/-- and as it lands in slot `(w, j)` of device `c`. -/
def gVal (x : Fin 2 × Fin 3) (c : Dev nD) : FVec F S1x1x256x128 .bf16 := fun i =>
  bVal m x.1 (sd c x.2) (Shape.reshapeEquiv squeezes_S1x256x128_S256x128.numel_eq ((Shape.reshapeEquiv squeezes_S1x1x256x128_S256x128.numel_eq).symm i))

/-- Block `(w, t)` of device `c`'s result: its own sum at `t = c`, what landed otherwise. -/
def yVal (x : Fin 2 × Fin 4) (c : Dev nD) : FVec F S1x256x128 .f32 :=
  if c = x.2 then k0_pay40 (total m x.1 c) else k0_pay48 (gVal m (x.1, slot x.2 c) c)

/-- Where an index of the result lies in its block. -/
def inBlock (i : S1x256x1024.Idx) : S1x256x128.Idx := fun a => match a with
  | ⟨0, _⟩ => i 0
  | ⟨1, _⟩ => i 1
  | ⟨2, _⟩ => ⟨(i 2).val % 128, Nat.mod_lt _ (by decide)⟩

/-- Device `c`'s result. -/
def outAt (c : Dev nD) : (cc0_stg5_0 : Ref sig .tc).ty.Contents (Elt F) := fun i => yVal m (yAt i) c (inBlock i)

end Values

/-! ## The schedule -/

section Sched
variable (m : (ℓ : Loc nD τ sig) → Buf (Elt F) ℓ)

/-- The three shares of a buffer that is read by three transfers at once. -/
def sh (j : Fin 3) : PosShare TreeShare := match j with
  | 0 => fullShare.left | 1 => fullShare.right.left | 2 => fullShare.right.right

/-- The four landing slots `j` of device `d`. -/
def slots (d : Dev nD) (j : Fin 3) : sProp 𝕄 :=
  iprop(anyPiece d rM (rR (0, j)) ∗ anyPiece d rM (rR (1, j)) ∗ anyPiece d gM (rR (0, j)) ∗ anyPiece d gM (rR (1, j)))

/-- What the duty of a transfer semaphore hands over. -/
def dmaPay (x : DK) (c : Dev nD) : sProp 𝕄 := match x.1 with
  | 0 => anyPiece c sM (rS (x.2.1, pr c x.2.2))
  | 1 => piece c rM (rR x.2) fullShare (rsVal m x.2 c)
  | 2 => piece c bM (rB x.2.1) (sh x.2.2) (bVal m x.2.1 c)
  | 3 => piece c gM (rR x.2) fullShare (gVal m x.2 c)

def pay (sm : SemLoc sig) (c : Dev nD) (j : Fin 3) : sProp 𝕄 := match sm with
  | .reg _ => slots (pr c j) j
  | .dma q => match dec q with
    | some x => dmaPay m x c
    | none => iprop(emp)

abbrev Used (g : GSem nD τ sig) : Prop := g.1.2 = .tc ∧ ∃ k : CK, g.2 = csem k

open Classical in
/-- One round. A barrier has three duties of one unit, a transfer semaphore one duty of a block's credit. -/
def Rd : Rounds.Schedule (GSem nD τ sig) (Fin 3) 𝕄 where
  duties g r := if r = 0 ∧ Used g then (if g.2 = .reg barS then Finset.univ else {0}) else ∅
  unitless _ := False
  amount g _ _ := if g.2 = .reg barS then 1 else N
  payload g _ d := pay m g.2 g.1.1 d
  amount_pos g _ _ _ := by
    split
    · exact Nat.one_pos
    · exact sig.dmaCredit_pos _ _ _ _ _ (by decide)

instance slots_storable (d : Dev nD) (j : Fin 3) : BI.Storable (upEmb : UEmb _ 𝕄) (slots (F := F) d j) := by
  unfold slots; infer_instance

instance dmaPay_storable (x : DK) (c : Dev nD) : BI.Storable (upEmb : UEmb _ 𝕄) (dmaPay m x c) := by
  obtain ⟨k, w, j⟩ := x
  unfold dmaPay
  split <;> infer_instance

instance payload_storable (g : GSem nD τ sig) (r : ℕ) (d : Fin 3) : BI.Storable (upEmb : UEmb _ 𝕄) ((Rd m).payload g r d) := by
  show BI.Storable upEmb (pay m g.2 g.1.1 d)
  unfold pay
  split
  · infer_instance
  · split <;> infer_instance

theorem used (c : Dev nD) (k : CK) : Used (cell c k) := ⟨rfl, k, rfl⟩

theorem duties_bar (c : Dev nD) : (Rd m).duties (cell c none) 0 = Finset.univ := by
  dsimp only [Rd]; rw [if_pos ⟨rfl, used c none⟩]; exact if_pos rfl
theorem duties_dma (c : Dev nD) (x : DK) : (Rd m).duties (cell c (some x)) 0 = {0} := by
  dsimp only [Rd]; rw [if_pos ⟨rfl, used c (some x)⟩]; exact if_neg (fun h => by cases h)
theorem duties_later (g : GSem nD τ sig) : ∀ r, 1 ≤ r → (Rd m).duties g r = ∅ :=
  fun r hr => by dsimp only [Rd]; exact if_neg fun h => by omega

theorem amount_bar (c : Dev nD) (d : Fin 3) : (Rd m).amount (cell c none) 0 d = 1 := by dsimp only [Rd]; exact if_pos rfl
theorem amount_dma (c : Dev nD) (x : DK) (d : Fin 3) : (Rd m).amount (cell c (some x)) 0 d = N := by
  dsimp only [Rd]; exact if_neg (fun h => by cases h)

theorem expect_bar (c : Dev nD) : (Rd m).expect (cell c none) 0 = 3 := by
  unfold Schedule.expect Schedule.amountOf
  rw [duties_bar, Finset.sum_congr rfl fun d _ => amount_bar m c d, Finset.sum_const, Finset.card_univ, Fintype.card_fin, smul_eq_mul]
theorem expect_dma (c : Dev nD) (x : DK) : (Rd m).expect (cell c (some x)) 0 = N := by
  unfold Schedule.expect Schedule.amountOf; rw [duties_dma, Finset.sum_singleton, amount_dma]

theorem payload_bar (c : Dev nD) (j : Fin 3) : (Rd m).payload (cell c none) 0 j = slots (pr c j) j := rfl
theorem payload_dma (c : Dev nD) (x : DK) (d : Fin 3) : (Rd m).payload (cell c (some x)) 0 d = dmaPay m x c := by
  show pay m (.dma (dsem x)) c d = _
  unfold pay; simp only [dec_dsem]

theorem rest_bar (c : Dev nD) : bigSep ((Rd m).duties (cell c none) 0 \ ∅) (fun d => (Rd m).payload (cell c none) 0 d)
    = iprop(slots (pr c 0) 0 ∗ slots (pr c 1) 1 ∗ slots (pr c 2) 2) := by
  rw [Finset.sdiff_empty, duties_bar, bigSep_univ_eq_bigSepL [0, 1, 2] (by decide) (by decide), bigSepL_cons_cons, bigSepL_cons_cons, bigSepL_singleton]
  rfl
theorem rest_dma (c : Dev nD) (x : DK) : bigSep ((Rd m).duties (cell c (some x)) 0 \ ∅) (fun d => (Rd m).payload (cell c (some x)) 0 d) = dmaPay m x c := by
  rw [Finset.sdiff_empty, duties_dma, bigSep_singleton, payload_dma]

end Sched

/-! ## Levels and debts -/

def L (g : GSem nD τ sig) : Finset Unit := if g.1.2 = .tc then {()} else ∅

def lvS (sm : SemLoc sig) : ℕ := match sm with
  | .reg _ => 1
  | .dma q => match dec q with
    | some (1, _) => 2
    | some (3, _) => 3
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- Everything owed is at a level above `n`. -/
def Above (n : ℕ) (O : CellTallies nD τ sig Unit) : Prop := ∀ g u, 0 < O g u → g.1.2 = .tc ∧ n < lv g u

theorem Above.zero (n : ℕ) : Above n 0 := fun g u h => absurd h (by simp)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.at {n : ℕ} (c : Dev nD) (k : CK) (a : ℕ) (h : n < lvS (csem k)) : Above n (tallyAt (cell c k) () a) := fun g u hg => by
  rw [tallyAt_apply] at hg
  by_cases e : g = cell c k ∧ u = ()
  · rw [e.1]; exact ⟨rfl, h⟩
  · rw [if_neg e] at hg; exact absurd hg (Nat.lt_irrefl 0)

theorem mayWait (c : Dev nD) (sm : SemLoc sig) (n : ℕ) (hn : lvS sm ≤ n) (O : CellTallies nD τ sig Unit) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hn)
    (fun g u hg => (h g u hg).2)

/-- What device `c` owes the device it sends slot `j`, half `w`, of the second exchange to. -/
abbrev owAg (c : Dev nD) (w : Fin 2) (j : Fin 3) : CellTallies nD τ sig Unit := tallyAt (cell (pr c j) (some (3, w, j))) () N
/-- What it owes target `t` in the first exchange, half `w`. -/
abbrev owRs (c t : Dev nD) (w : Fin 2) : CellTallies nD τ sig Unit := tallyAt (cell t (some (1, w, slot c t))) () N
/-- The unit it owes the barrier whose duty `j` it pays. -/
abbrev owBar (c : Dev nD) (j : Fin 3) : CellTallies nD τ sig Unit := tallyAt (cell (sd c j) none) () 1

/-- Owed in the second exchange, half 1; both halves. -/
def oAg1 (c : Dev nD) : CellTallies nD τ sig Unit := 0 + owAg c 1 2 + owAg c 1 1 + owAg c 1 0
def oAg (c : Dev nD) : CellTallies nD τ sig Unit := oAg1 c + owAg c 0 2 + owAg c 0 1 + owAg c 0 0
/-- Owed target `t` in the first exchange. -/
def blk (c t : Dev nD) : CellTallies nD τ sig Unit := if c = t then 0 else owRs c t 1 + owRs c t 0
/-- Owed from the barrier on, and at the start. -/
def oRs (c : Dev nD) : CellTallies nD τ sig Unit := oAg c + blk c 3 + blk c 2 + blk c 1 + blk c 0
def O₀ (c : Dev nD) : CellTallies nD τ sig Unit := oRs c + owBar c 0 + owBar c 1 + owBar c 2

theorem lvS_dma (x : DK) : lvS (csem (some x)) = (if x.1 = 1 then 2 else if x.1 = 3 then 3 else 0) := by
  show (match dec (dsem x) with | some (1, _) => 2 | some (3, _) => 3 | _ => 0) = _
  rw [dec_dsem]
  revert x; decide

theorem above_oAg1 (c : Dev nD) : Above 2 (oAg1 c) :=
  (((Above.zero 2).add (Above.at _ _ _ (by rw [lvS_dma]; decide))).add (Above.at _ _ _ (by rw [lvS_dma]; decide))).add (Above.at _ _ _ (by rw [lvS_dma]; decide))
theorem above_oAg (c : Dev nD) : Above 2 (oAg c) :=
  (((above_oAg1 c).add (Above.at _ _ _ (by rw [lvS_dma]; decide))).add (Above.at _ _ _ (by rw [lvS_dma]; decide))).add (Above.at _ _ _ (by rw [lvS_dma]; decide))
theorem Above.mono {n k : ℕ} {O : CellTallies nD τ sig Unit} (h : Above n O) (hk : k ≤ n) : Above k O := fun g u hg => ⟨(h g u hg).1, lt_of_le_of_lt hk (h g u hg).2⟩
theorem above_blk (c t : Dev nD) : Above 1 (blk c t) := by
  unfold blk; split
  · exact Above.zero 1
  · exact (Above.at _ _ _ (by rw [lvS_dma]; exact Nat.one_lt_two)).add (Above.at _ _ _ (by rw [lvS_dma]; exact Nat.one_lt_two))
theorem above_oRs (c : Dev nD) : Above 1 (oRs c) :=
  (((((above_oAg c).mono (by decide)).add (above_blk c 3)).add (above_blk c 2)).add (above_blk c 1)).add (above_blk c 0)
theorem above_O₀ (c : Dev nD) : Above 0 (O₀ c) :=
  ((((above_oRs c).mono (by decide)).add (Above.at _ _ _ (by decide))).add (Above.at _ _ _ (by decide))).add (Above.at _ _ _ (by decide))

end Cert.KernelIdeal.Hand

end
-- ==== Proof.Statements.lean ====
/-
# The statements of the protocol

One rule per kind of statement that crosses devices: a barrier signal, the barrier wait, a block sent in the first
exchange, a block sent in the second, a wait on a transfer semaphore. Each takes from the state of device `c` what the
statement uses, its debts included, and gives back what it leaves. A semaphore is waited on once and closed at once.
-/
module

public import proofs.«01_k».proof.Proof.Schedule
public import Idealize.ShloMosaic.Lib.ViewIndex

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Device `c`'s core runs `p` to `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited for. -/
def ow (c : Dev nD) (O : CellTallies nD τ sig Unit) : sProp 𝕄 := iprop(∃ W : Waits sig Unit, owes (c : Thread nD τ) O W)

section Statements
variable (m : (ℓ : Loc nD τ sig) → Buf (Elt F) ℓ) (K : Dev nD × CK → ℕ)

/-- Every semaphore of the protocol has its invariant, and is at its round. -/
def records : sProp 𝕄 :=
  iprop((bigSep Finset.univ fun p : Dev nD × CK => cellInv ER (Rd m) (K p) (cell p.1 p.2))
    ∗ bigSep Finset.univ fun p : Dev nD × CK => reached ER (cell p.1 p.2) 0)

instance records_persistent : BI.Persistent (records m K) := by unfold records; infer_instance

theorem records_inv (c : Dev nD) (k : CK) : records m K ⊢ cellInv ER (Rd m) (K (c, k)) (cell c k) := by
  unfold records
  refine BIBase.Entails.trans ?_ (show (bigSep Finset.univ fun p : Dev nD × CK => (cellInv ER (Rd m) (K p) (cell p.1 p.2) : sProp 𝕄)) ⊢ cellInv ER (Rd m) (K (c, k)) (cell c k)
    from bigSep_elim (Finset.mem_univ (c, k)))
  iintro ⟨H, -⟩; iexact H
theorem records_reached (c : Dev nD) (k : CK) : records m K ⊢ reached ER (cell c k) 0 := by
  unfold records
  refine BIBase.Entails.trans ?_ (show (bigSep Finset.univ fun p : Dev nD × CK => (reached ER (cell p.1 p.2) 0 : sProp 𝕄)) ⊢ reached ER (cell c k) 0
    from bigSep_elim (Finset.mem_univ (c, k)))
  iintro ⟨-, H⟩; iexact H

/-- Device `c` is about to wait on a transfer semaphore of its own whose landing is under way; -/
def rcv (c : Dev nD) (x : DK) : sProp 𝕄 := iprop(atPos ER (cell c (some x)) 0 ∅ 0 ∗ cred (tallyAt (cell c (some x)) () N))
/-- and it has. -/
def fin (c : Dev nD) (x : DK) : sProp 𝕄 := semVal (cell c (some x)) 0
/-- Device `c` may send slot `(w, j)` of an exchange: it holds both duties of the transfer and will wait for its end. -/
def kit (c : Dev nD) (k k' : Fin 4) (w : Fin 2) (j : Fin 3) : sProp 𝕄 :=
  iprop(atPos ER (cell c (some (k, w, j))) 0 ∅ 0 ∗ dutyTok ER (cell c (some (k, w, j))) 0 0 ∗ dutyTok ER (cell (pr c j) (some (k', w, j))) 0 0)

/-- A piece with its axes of size one dropped is the same elements. -/
theorem squeeze_pts (c : Dev nD) {s : Shape} (M : Memref sig .tc .vmem s .bf16) (r : Rect s) (hr : ∀ a, r.stride a = 1) (hs : r.shape.Squeezes S256x128)
    (q : PosShare TreeShare) (f : Buf (Elt F) ((M.access r).loc (c : Thread nD τ))) :
    (((M.slice r hr).squeeze S256x128 hs).view.loc (c : Thread nD τ) ↦[((M.slice r hr).squeeze S256x128 hs).view.set]{q} f : sProp 𝕄)
      = ((M.access r).loc (c : Thread nD τ) ↦[(M.access r).set]{q} f) := by
  have h : ((M.slice r hr).squeeze S256x128 hs).view.set = (M.access r).set := View.set_reshape _ _
  show ((M.access r).loc (c : Thread nD τ) ↦[((M.slice r hr).squeeze S256x128 hs).view.set]{q} f : sProp 𝕄) = _
  rw [h]

theorem mem_bar (c : Dev nD) (j : Fin 3) : j ∈ (Rd m).duties (cell c none) 0 := by rw [duties_bar]; exact Finset.mem_univ _
theorem mem_dma (c : Dev nD) (x : DK) : (0 : Fin 3) ∈ (Rd m).duties (cell c (some x)) 0 := by rw [duties_dma]; exact Finset.mem_singleton_self _

/-- A barrier signal hands the landing slots `j` over. -/
theorem wp_bar_signal (c : Dev nD) (j : Fin 3) (n : Dev nD) (hn : n = sd c j) (a : ℤ) (ha : a = ((1 : ℕ) : ℤ)) (O : CellTallies nD τ sig Unit)
    {α : Type} {Q : α → sProp 𝕄} {k : PUnit → Prog (TpuEff nD τ sig (Elt F) Λ₀ .tc) α} :
    iprop(records m K ∗ ow c (O + owBar c j) ∗ dutyTok ER (cell (sd c j) none) 0 j ∗ slots c j)
      ⊢ iprop((ow c O -∗ wpc c (k ⟨⟩) Q) -∗ wpc c (.op (.semSignal (n, .tc) barS a) k) Q) := by
  subst hn ha
  unfold ow
  iintro ⟨#HR, ⟨%W, HO⟩, Ht, Hs⟩ Hk
  iapply (Rounds.wp_signal 𝒱₀ ER (Rd m) (c : Thread nD τ) none (dst := (sd c j : Thread nD τ)) (κ := K (sd c j, none))
    (d := j) (mem_bar m (sd c j) j) (amount_bar m (sd c j) j) () O rfl) $$ [HO Ht Hs]
  · isplitr; · iapply (records_inv m K (sd c j) none); iexact HR
    isplitl [HO]; · iexact HO
    isplitl [Ht]; · iexact Ht
    isplitl [Hs]; · iapply (show slots c j ⊢ (Rd m).payload ((sd c j : Thread nD τ), SemLoc.reg barS) 0 j from Entails.of_eq ((congrArg (fun d => slots d j) (pr_sd c j).symm).trans (payload_bar m (sd c j) j).symm)); iexact Hs
    iapply (records_reached m K (sd c j) none); iexact HR
  iintro HO
  iapply Hk
  iexists W; iexact HO

/-- The barrier wait: the peers' landing slots are the device's to write into. -/
theorem wp_bar_wait (c : Dev nD) (a : ℤ) (ha : a = ((3 : ℕ) : ℤ)) (O : CellTallies nD τ sig Unit) (hO : Above 1 O)
    {α : Type} {Q : α → sProp 𝕄} {k : PUnit → Prog (TpuEff nD τ sig (Elt F) Λ₀ .tc) α} :
    iprop(records m K ∗ levAts L lv ∗ ow c O ∗ cred (tallyAt (cell c none) () 3) ∗ atPos ER (cell c none) 0 ∅ 0)
      ⊢ iprop(((ow c O ∗ semVal (cell c none) 0 ∗ slots (pr c 0) 0 ∗ slots (pr c 1) 1 ∗ slots (pr c 2) 2) -∗ wpc c (k ⟨⟩) Q)
        -∗ wpc c (.op (.semWait barS a) k) Q) := by
  subst ha
  unfold ow
  iintro ⟨#HR, #Hlev, ⟨%W, HO⟩, Hc, Ha⟩ Hk
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      ((Nat.zero_add _).trans (expect_bar m c).symm)) $$ [HO Hc Ha]
  · isplitr; · iapply (records_inv m K c none); iexact HR
    isplitl [Hc]; · iexact Hc
    isplitl [HO]; · iexact HO
    isplitr; · iapply (mayWait c _ 1 (by decide) O hO); iexact Hlev
    iexact Ha
  iintro ⟨HO, Ha, -, Hp⟩
  ihave Hp := (Entails.of_eq (show bigSep ((Rd m).duties ((c : Thread nD τ), SemLoc.reg barS) 0 \ ∅) (fun d => (Rd m).payload ((c : Thread nD τ), SemLoc.reg barS) 0 d) = _ from rest_bar m c)) $$ Hp
  imod (Rounds.cell_close ER (Rd m) (Set.mem_univ (K (c, none))) (fun h => h) (R := 0 + 1) (duties_later m (cell c none))) $$ [Ha] with Hz
  · isplitr; · iapply (records_inv m K c none); iexact HR
    iexact Ha
  iapply Hk
  isplitl [HO]; · iexists _; iexact HO
  isplitl [Hz]; · iexact Hz
  iexact Hp

/-- A wait on a transfer semaphore: what the duty hands over is the device's. -/
theorem wp_dma_wait (c : Dev nD) (x : DK) (q : DmaSem sig) (hq : q = dsem x) (O : CellTallies nD τ sig Unit) (hO : Above (lvS (csem (some x))) O)
    {sp sp' : Space} {s s' : Shape} {e e' : EltTy} {src : Memref sig .tc sp' s' e'} {dst : Memref sig .tc sp s e}
    {hsrc : src.view.WordExact} {hdst : dst.view.WordExact} (hN : dst.view.dmaCredit = N)
    {α : Type} {Q : α → sProp 𝕄} {k : PUnit → Prog (TpuEff nD τ sig (Elt F) Λ₀ .tc) α} :
    iprop(records m K ∗ levAts L lv ∗ ow c O ∗ rcv c x)
      ⊢ iprop(((ow c O ∗ fin c x ∗ dmaPay m x c) -∗ wpc c (k ⟨⟩) Q)
        -∗ wpc c (.op (.waitDma2 q src dst hsrc hdst) k) Q) := by
  subst hq
  unfold ow rcv fin
  iintro ⟨#HR, #Hlev, ⟨%W, HO⟩, Ha, Hc⟩ Hk
  iapply (Rounds.wp_wait_rest_token 𝒱₀ ER (Rd m) (c : Thread nD τ) none (κ := K (c, some x)) (sm := .dma (dsem x)) (k' := N)
      (by intro Kt; rw [← hN]; exact wpE_waitDma2_eq 𝒱₀ (c : Thread nD τ) none Set.univ Kt) (Set.mem_univ _) () (O := O) (W := W) (R := 0) (m := 0) (T := ∅)
      (by rw [Nat.zero_add]; exact (expect_dma m c x).symm)) $$ [HO Hc Ha]
  · isplitr; · iapply (records_inv m K c (some x)); iexact HR
    isplitl [Hc]; · iexact Hc
    isplitl [HO]; · iexact HO
    isplitr; · iapply (mayWait c (csem (some x)) _ (le_refl _) O hO); iexact Hlev
    iexact Ha
  iintro ⟨HO, Ha, -, Hp⟩
  ihave Hp := (Entails.of_eq (show bigSep ((Rd m).duties ((c : Thread nD τ), SemLoc.dma (dsem x)) 0 \ ∅) (fun d => (Rd m).payload ((c : Thread nD τ), SemLoc.dma (dsem x)) 0 d) = _ from rest_dma m c x)) $$ Hp
  imod (Rounds.cell_close ER (Rd m) (Set.mem_univ (K (c, some x))) (fun h => h) (R := 0 + 1) (duties_later m (cell c (some x)))) $$ [Ha] with Hz
  · isplitr; · iapply (records_inv m K c (some x)); iexact HR
    iexact Ha
  iapply Hk
  isplitl [HO]; · iexists _; iexact HO
  isplitl [Hz]; · iexact Hz
  iexact Hp

/-- A piece sent to the peer `pr c j`, onto a piece of a buffer of the peer's, pays the duty of the send semaphore `x` with the
    source and that of the peer's receive semaphore `x'` with the destination holding the source's contents in its own order. -/
theorem wp_send_piece (c : Dev nD) (j : Fin 3) (n : Dev nD) (hn : n = pr c j) (x x' : DK) (q q' : DmaSem sig) (hq : q = dsem x) (hq' : q' = dsem x')
    {s₁ s₂ : Shape} {M₁ : Memref sig .tc .vmem s₁ .bf16} {r₁ : Rect s₁} {hr₁ : ∀ a, r₁.stride a = 1} {hs₁ : r₁.shape.Squeezes S256x128}
    {M₂ : Memref sig .tc .vmem s₂ .bf16} {r₂ : Rect s₂} {hr₂ : ∀ a, r₂.stride a = 1} {hs₂ : r₂.shape.Squeezes S256x128}
    (qs : PosShare TreeShare) (X : r₁.shape.Idx → Elt F .bf16) (O : CellTallies nD τ sig Unit)
    (hN : ((M₂.slice r₂ hr₂).squeeze S256x128 hs₂).view.amount (.dma q') = N)
    (h₁ : piece c M₁ r₁ qs X ⊢ dmaPay m x c)
    (h₂ : piece (pr c j) M₂ r₂ fullShare (fun y => X (Shape.reshapeEquiv hs₁.numel_eq ((Shape.reshapeEquiv hs₂.numel_eq).symm y))) ⊢ dmaPay m x' (pr c j))
    {hsc : ((M₂.slice r₂ hr₂).squeeze S256x128 hs₂).view.ref.isScScratch = false}
    {hsrc : ((M₁.slice r₁ hr₁).squeeze S256x128 hs₁).view.WordExact} {hdst : ((M₂.slice r₂ hr₂).squeeze S256x128 hs₂).view.WordExact}
    {hsem : DmaTarget.Typed (nD := nD) (τ := τ) (p := Proc.tc) .vmem (.dma q')
      (.remote (Dev.tc n : Thread nD τ) ((M₂.slice r₂ hr₂).squeeze S256x128 hs₂) (.dma q) hsc)}
    {α : Type} {Q : α → sProp 𝕄} {k : PUnit → Prog (TpuEff nD τ sig (Elt F) Λ₀ .tc) α} :
    iprop(records m K ∗ ow c (O + tallyAt (cell (pr c j) (some x')) () N) ∗ piece c M₁ r₁ qs X ∗ anyPiece (pr c j) M₂ r₂
        ∗ dutyTok ER (cell c (some x)) 0 0 ∗ dutyTok ER (cell (pr c j) (some x')) 0 0)
      ⊢ iprop(((ow c O ∗ cred (tallyAt (cell c (some x)) () N)) -∗ wpc c (k ⟨⟩) Q)
        -∗ wpc c (.op (.enqueueDma ((M₁.slice r₁ hr₁).squeeze S256x128 hs₁)
            (.remote (Dev.tc n : Thread nD τ) ((M₂.slice r₂ hr₂).squeeze S256x128 hs₂) (.dma q) hsc) (.dma q') hsrc hdst hsem) k) Q) := by
  subst hn hq hq'
  unfold ow piece anyPiece
  iintro ⟨#HR, ⟨%W, HO⟩, ⟨%fs, %hfs, Hsrc⟩, ⟨%fd, Hdst⟩, Ht, Ht'⟩ Hk
  iapply (Rounds.wp_send_pointsTo 𝒱₀ ER (Rd m) (c : Thread nD τ) none (c' := (pr c j : Thread nD τ)) (κ₁ := K (c, some x)) (κ₂ := K (pr c j, some x'))
    (r₁ := 0) (r₂ := 0) (d₁ := 0) (d₂ := 0) (fs := fs) (fd := fd) (q := qs)
    (src := ((M₁.slice r₁ hr₁).squeeze S256x128 hs₁)) (dst := ((M₂.slice r₂ hr₂).squeeze S256x128 hs₂))
    (mem_dma m c x)
    (mem_dma m (pr c j) x')
    () () N hN (amount_dma m c x 0) (amount_dma m (pr c j) x' 0) O rfl (W := W)
    (by
      refine BIBase.Entails.trans ?_ ((h₁.trans (Entails.of_eq (payload_dma m c x 0).symm)))
      refine (Entails.of_eq (squeeze_pts c M₁ r₁ hr₁ hs₁ qs fs)).trans ?_
      unfold piece
      iintro H; iexists fs; isplitr; · ipureintro; exact hfs
      iexact H)
    (by
      refine BIBase.Entails.trans ?_ ((h₂.trans (Entails.of_eq (payload_dma m (pr c j) x' 0).symm)))
      refine (Entails.of_eq (squeeze_pts (pr c j) M₂ r₂ hr₂ hs₂ fullShare _)).trans ?_
      unfold piece
      iintro H; iexists _; isplitr; swap; · iexact H
      ipureintro
      funext y
      obtain ⟨z, rfl⟩ := (Shape.reshapeEquiv hs₂.numel_eq).surjective y
      rw [Equiv.symm_apply_apply, ← hfs]
      exact View.read_write_reshape _ _ _ _ z)) $$ [HO Hsrc Hdst Ht Ht']
  · isplitr; · iapply (records_inv m K c (some x)); iexact HR
    isplitr; · iapply (records_inv m K (pr c j) (some x')); iexact HR
    isplitl [Hsrc]; · iapply (Entails.of_eq (squeeze_pts c M₁ r₁ hr₁ hs₁ qs fs).symm); iexact Hsrc
    isplitl [Hdst]; · iapply (Entails.of_eq (squeeze_pts (pr c j) M₂ r₂ hr₂ hs₂ fullShare fd).symm); iexact Hdst
    isplitl [HO]; · iexact HO
    isplitl [Ht]; · iexact Ht
    isplitr; · iapply (records_reached m K c (some x)); iexact HR
    isplitl [Ht']; · iexact Ht'
    iapply (records_reached m K (pr c j) (some x')); iexact HR
  iintro ⟨Hc, HO⟩
  iapply Hk
  isplitl [HO]; · iexists W; iexact HO
  iexact Hc

/-- A semaphore of an array at the offset of half `w`, slot `j`. -/
theorem sem_eq (k : Fin 4) (w : Fin 2) (j : Fin 3) (i : ∀ a, (![w.val, j.val] : Fin 2 → Nat) a + S1x1.size a ≤ S2x3.size a) :
    semAt (semArr k) ![w.val, j.val] i = dsem (k, w, j) := rfl

/-- A landing slot's credit is a block's. -/
theorem amount_r (w : Fin 2) (j : Fin 3) (q : DmaSem sig) (hr : ∀ a, (rR (w, j)).stride a = 1) :
    ((rM.slice (rR (w, j)) hr).squeeze S256x128 squeezes_S1x1x256x128_S256x128).view.amount (.dma q) = N := rfl
theorem amount_g (w : Fin 2) (j : Fin 3) (q : DmaSem sig) (hr : ∀ a, (rR (w, j)).stride a = 1) :
    ((gM.slice (rR (w, j)) hr).squeeze S256x128 squeezes_S1x1x256x128_S256x128).view.amount (.dma q) = N := rfl

/-- What a peer finds in its slot is what was sent, in the slot's own order. -/
theorem rsVal_eq (c : Dev nD) (w : Fin 2) (j : Fin 3) :
    (fun y => sendVal m (w, pr c j) c (Shape.reshapeEquiv squeezes_S1x1x256x128_S256x128.numel_eq ((Shape.reshapeEquiv squeezes_S1x1x256x128_S256x128.numel_eq).symm y)))
      = rsVal m (w, j) (pr c j) := by
  funext y
  rw [Equiv.apply_symm_apply]
  unfold rsVal
  rw [sd_pr]
theorem gVal_eq (c : Dev nD) (w : Fin 2) (j : Fin 3) :
    (fun y => bVal m w c (Shape.reshapeEquiv squeezes_S1x256x128_S256x128.numel_eq ((Shape.reshapeEquiv squeezes_S1x1x256x128_S256x128.numel_eq).symm y)))
      = gVal m (w, j) (pr c j) := by
  funext y
  unfold gVal
  rw [sd_pr]

theorem sent_back (c : Dev nD) (w : Fin 2) (j : Fin 3) : piece c sM (rS (w, pr c j)) fullShare (sendVal m (w, pr c j) c) ⊢ dmaPay m (0, w, j) c :=
  piece_any c sM (rS (w, pr c j)) (sendVal m (w, pr c j) c)

/-- Half `w` of the block for target `t` in the first exchange: its pieces, and what the transfer needs. -/
def half (c t : Dev nD) (w : Fin 2) : sProp 𝕄 :=
  iprop(anyPiece c sM (rS (w, t)) ∗ anyPiece t rM (rR (w, slot c t)) ∗ kit c 0 1 w (slot c t))

/-- Half a block stored into the send buffer and sent: the load before the store is of no use. -/
theorem wp_half (c t : Dev nD) (h : c ≠ t) (w : Fin 2) (n : Dev nD) (hn : n = t) (O : CellTallies nD τ sig Unit)
    {o₁ : Fin 4 → Nat} (ho₁ : o₁ = ![w.val, t.val, 0, 0]) {o₂ : Fin 4 → Nat} (ho₂ : o₂ = ![w.val, (slot c t).val, 0, 0])
    {o₃ : Fin 2 → Nat} (ho₃ : o₃ = ![w.val, (slot c t).val])
    {i₁ : ∀ a, o₁ a + S1x1x256x128.size a ≤ S2x4x256x128.size a} {i₂ : ∀ a, o₂ a + S1x1x256x128.size a ≤ S2x3x256x128.size a}
    {i₃ : ∀ a, o₃ a + S1x1.size a ≤ S2x3.size a}
    {v : FVec F S1x1x256x128 .bf16} (hv : v = sendVal m (w, t) c)
    {hl : sM.view.LoadsAt (Rect.unit (s := S2x4x256x128) o₁ S1x1x256x128.size i₁).toLoadRect}
    {hx : (sM.access (Rect.unit (s := S2x4x256x128) o₁ S1x1x256x128.size i₁)).Stores Finset.univ}
    {hm : (Finset.univ : Finset (Rect.unit (s := S2x4x256x128) o₁ S1x1x256x128.size i₁).shape.Idx) = Finset.univ
      ∨ ∀ a, (Rect.unit (s := S2x4x256x128) o₁ S1x1x256x128.size i₁).stride a = 1}
    {hsc : ((rM.slice (Rect.unit (s := S2x3x256x128) o₂ S1x1x256x128.size i₂) (fun _ => rfl)).squeeze S256x128 squeezes_S1x1x256x128_S256x128).view.ref.isScScratch = false}
    {hsrc : ((sM.slice (Rect.unit (s := S2x4x256x128) o₁ S1x1x256x128.size i₁) (fun _ => rfl)).squeeze S256x128 squeezes_S1x1x256x128_S256x128).view.WordExact}
    {hdst : ((rM.slice (Rect.unit (s := S2x3x256x128) o₂ S1x1x256x128.size i₂) (fun _ => rfl)).squeeze S256x128 squeezes_S1x1x256x128_S256x128).view.WordExact}
    {hsem : DmaTarget.Typed (nD := nD) (τ := τ) (p := Proc.tc) .vmem (.dma (semAt cc0_scratch6 o₃ i₃))
      (.remote (Dev.tc n : Thread nD τ) ((rM.slice (Rect.unit (s := S2x3x256x128) o₂ S1x1x256x128.size i₂) (fun _ => rfl)).squeeze S256x128 squeezes_S1x1x256x128_S256x128) (.dma (semAt cc0_scratch5 o₃ i₃)) hsc)}
    {α : Type} {Q : α → sProp 𝕄} {k : PUnit → Prog (TpuEff nD τ sig (Elt F) Λ₀ .tc) α} :
    iprop(records m K ∗ ow c (O + owRs c t w) ∗ half c t w)
      ⊢ iprop(((ow c O ∗ rcv c (0, w, slot c t)) -∗ wpc c (k ⟨⟩) Q)
        -∗ wpc c (.op (.load sM (Rect.unit (s := S2x4x256x128) o₁ S1x1x256x128.size i₁).toLoadRect hl) fun _ =>
            .op (.store sM (Rect.unit (s := S2x4x256x128) o₁ S1x1x256x128.size i₁) v Finset.univ hx hm) fun _ =>
            .op (.enqueueDma ((sM.slice (Rect.unit (s := S2x4x256x128) o₁ S1x1x256x128.size i₁) (fun _ => rfl)).squeeze S256x128 squeezes_S1x1x256x128_S256x128)
              (.remote (Dev.tc n : Thread nD τ) ((rM.slice (Rect.unit (s := S2x3x256x128) o₂ S1x1x256x128.size i₂) (fun _ => rfl)).squeeze S256x128 squeezes_S1x1x256x128_S256x128) (.dma (semAt cc0_scratch5 o₃ i₃)) hsc)
              (.dma (semAt cc0_scratch6 o₃ i₃)) hsrc hdst hsem) k) Q) := by
  subst hn hv
  obtain ⟨j, hj⟩ : ∃ j, slot c n = j := ⟨_, rfl⟩
  rw [hj] at ho₂ ho₃
  have hp : pr c j = n := by rw [← hj]; exact pr_slot c n h
  unfold half kit rcv owRs
  simp only [hj]
  subst hp ho₁ ho₂ ho₃
  iintro ⟨#HR, HO, Hs, Hr, Hat, Ht, Ht'⟩ Hk
  iapply (wp_load_any c (M := sM) (r := rS (w, pr c j))) $$ Hs
  iintro %X Hs
  iapply (wp_store_piece c (M := sM) (r := rS (w, pr c j))) $$ Hs
  iintro Hs
  iapply (wp_send_piece m K c j _ rfl (0, w, j) (1, w, j) _ _ (sem_eq 0 w j _) (sem_eq 1 w j _) (M₁ := sM) (r₁ := rS (w, pr c j)) (M₂ := rM) (r₂ := rR (w, j)) (hr₁ := fun _ => rfl) (hr₂ := fun _ => rfl)
    (hs₁ := squeezes_S1x1x256x128_S256x128) (hs₂ := squeezes_S1x1x256x128_S256x128)
    fullShare (sendVal m (w, pr c j) c) O (amount_r w j _ _) (sent_back m c w j)
    (Entails.of_eq (congrArg (piece (pr c j) rM (rR (w, j)) fullShare) (rsVal_eq m c w j)))) $$ [HO Hs Hr Ht Ht']
  · isplitr; · iexact HR
    isplitl [HO]; · iexact HO
    isplitl [Hs]; · iexact Hs
    isplitl [Hr]; · iexact Hr
    isplitl [Ht] <;> iassumption
  iintro ⟨HO, Hc⟩
  iapply Hk
  isplitl [HO]; · iexact HO
  isplitl [Hat] <;> iassumption

/-- Half `w` of the rounded sum sent to the peer `pr c j` in the second exchange. -/
theorem wp_ag_send (c : Dev nD) (w : Fin 2) (j : Fin 3) (n : Dev nD) (hn : n = pr c j) (O : CellTallies nD τ sig Unit)
    {o₁ : Fin 3 → Nat} (ho₁ : o₁ = ![w.val, 0, 0]) {o₂ : Fin 4 → Nat} (ho₂ : o₂ = ![w.val, j.val, 0, 0])
    {o₃ : Fin 2 → Nat} (ho₃ : o₃ = ![w.val, j.val])
    {i₁ : ∀ a, o₁ a + S1x256x128.size a ≤ S2x256x128.size a} {i₂ : ∀ a, o₂ a + S1x1x256x128.size a ≤ S2x3x256x128.size a}
    {i₃ : ∀ a, o₃ a + S1x1.size a ≤ S2x3.size a}
    {hsc : ((gM.slice (Rect.unit (s := S2x3x256x128) o₂ S1x1x256x128.size i₂) (fun _ => rfl)).squeeze S256x128 squeezes_S1x1x256x128_S256x128).view.ref.isScScratch = false}
    {hsrc : ((bM.slice (Rect.unit (s := S2x256x128) o₁ S1x256x128.size i₁) (fun _ => rfl)).squeeze S256x128 squeezes_S1x256x128_S256x128).view.WordExact}
    {hdst : ((gM.slice (Rect.unit (s := S2x3x256x128) o₂ S1x1x256x128.size i₂) (fun _ => rfl)).squeeze S256x128 squeezes_S1x1x256x128_S256x128).view.WordExact}
    {hsem : DmaTarget.Typed (nD := nD) (τ := τ) (p := Proc.tc) .vmem (.dma (semAt cc0_scratch8 o₃ i₃))
      (.remote (Dev.tc n : Thread nD τ) ((gM.slice (Rect.unit (s := S2x3x256x128) o₂ S1x1x256x128.size i₂) (fun _ => rfl)).squeeze S256x128 squeezes_S1x1x256x128_S256x128) (.dma (semAt cc0_scratch7 o₃ i₃)) hsc)}
    {α : Type} {Q : α → sProp 𝕄} {k : PUnit → Prog (TpuEff nD τ sig (Elt F) Λ₀ .tc) α} :
    iprop(records m K ∗ ow c (O + owAg c w j) ∗ piece c bM (rB w) (sh j) (bVal m w c) ∗ anyPiece (pr c j) gM (rR (w, j)) ∗ kit c 2 3 w j)
      ⊢ iprop(((ow c O ∗ rcv c (2, w, j)) -∗ wpc c (k ⟨⟩) Q)
        -∗ wpc c (.op (.enqueueDma ((bM.slice (Rect.unit (s := S2x256x128) o₁ S1x256x128.size i₁) (fun _ => rfl)).squeeze S256x128 squeezes_S1x256x128_S256x128)
              (.remote (Dev.tc n : Thread nD τ) ((gM.slice (Rect.unit (s := S2x3x256x128) o₂ S1x1x256x128.size i₂) (fun _ => rfl)).squeeze S256x128 squeezes_S1x1x256x128_S256x128) (.dma (semAt cc0_scratch7 o₃ i₃)) hsc)
              (.dma (semAt cc0_scratch8 o₃ i₃)) hsrc hdst hsem) k) Q) := by
  subst ho₁ ho₂ ho₃ hn
  unfold kit rcv owAg
  iintro ⟨#HR, HO, Hs, Hr, Hat, Ht, Ht'⟩ Hk
  iapply (wp_send_piece m K c j _ rfl (2, w, j) (3, w, j) _ _ (sem_eq 2 w j _) (sem_eq 3 w j _) (M₁ := bM) (r₁ := rB w) (M₂ := gM) (r₂ := rR (w, j)) (hr₁ := fun _ => rfl) (hr₂ := fun _ => rfl)
    (hs₁ := squeezes_S1x256x128_S256x128) (hs₂ := squeezes_S1x1x256x128_S256x128)
    (sh j) (bVal m w c) O (amount_g w j _ _) (Entails.of_eq rfl)
    (Entails.of_eq (congrArg (piece (pr c j) gM (rR (w, j)) fullShare) (gVal_eq m c w j)))) $$ [HO Hs Hr Ht Ht']
  · isplitr; · iexact HR
    isplitl [HO]; · iexact HO
    isplitl [Hs]; · iexact Hs
    isplitl [Hr]; · iexact Hr
    isplitl [Ht] <;> iassumption
  iintro ⟨HO, Hc⟩
  iapply Hk
  isplitl [HO]; · iexact HO
  isplitl [Hat] <;> iassumption

end Statements

end Cert.KernelIdeal.Hand

end
-- ==== Proof.Steps.lean ====
/-
# The conditional steps

The kernel's text is the same on every device, so that a step for target `t` runs under a condition that says whether the
device is `t`. This module reads the conditions, the offsets and the addressed devices off the program's words, and gives one
rule per conditional step: the block for `t` sent, the own partial product stored, the own half of the result stored, a
landed half of the result stored.
-/
module

public import proofs.«01_k».proof.Proof.Statements

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The program's words -/

/-- The device's number as the program computes it. -/
def word (c : Dev nD) : BitVec 32 := Scalar.remsi (Scalar.divsi (Dev.word c) 1#32) 4#32

theorem own_cond (t : Fin 4) (c : Dev nD) :
    Scalar.cmpi .ne (Scalar.extui (Scalar.cmpi .eq (word c) (BitVec.ofNat 32 t.val)) : BitVec 32) 0#32 = 1#1 ↔ c = t := by
  revert t c; decide

theorem dev1_eq (c : Dev nD) (h) : (⟨k0_dev1 c, h⟩ : Dev nD) = sd c 2 := by revert h; revert c; decide
theorem dev2_eq (c : Dev nD) (h) : (⟨k0_dev2 c, h⟩ : Dev nD) = sd c 1 := by revert h; revert c; decide
theorem dev3_eq (c : Dev nD) (h) : (⟨k0_dev3 c, h⟩ : Dev nD) = sd c 0 := by revert h; revert c; decide

theorem cond1 (c : Dev nD) : k0_cond1 c = 1#1 ↔ c ≠ 0 := by revert c; decide
theorem cond3 (c : Dev nD) : k0_cond3 c = 1#1 ↔ c ≠ 1 := by revert c; decide
theorem cond5 (c : Dev nD) : k0_cond5 c = 1#1 ↔ c ≠ 2 := by revert c; decide
theorem cond7 (c : Dev nD) : k0_cond7 c = 1#1 ↔ c ≠ 3 := by revert c; decide
theorem off1 (c : Dev nD) : c ≠ 0 → k0_off1 c = ![(0 : Fin 2).val, (slot c 0).val] := by revert c; decide
theorem off2 (c : Dev nD) : c ≠ 0 → k0_off2 c = ![(0 : Fin 2).val, (slot c 0).val, 0, 0] := by revert c; decide
theorem off3 (c : Dev nD) : c ≠ 0 → k0_off3 c = ![(1 : Fin 2).val, (slot c 0).val] := by revert c; decide
theorem off4 (c : Dev nD) : c ≠ 0 → k0_off4 c = ![(1 : Fin 2).val, (slot c 0).val, 0, 0] := by revert c; decide
theorem off5 (c : Dev nD) : c ≠ 1 → k0_off5 c = ![(0 : Fin 2).val, (slot c 1).val] := by revert c; decide
theorem off6 (c : Dev nD) : c ≠ 1 → k0_off6 c = ![(0 : Fin 2).val, (slot c 1).val, 0, 0] := by revert c; decide
theorem off7 (c : Dev nD) : c ≠ 1 → k0_off7 c = ![(1 : Fin 2).val, (slot c 1).val] := by revert c; decide
theorem off8 (c : Dev nD) : c ≠ 1 → k0_off8 c = ![(1 : Fin 2).val, (slot c 1).val, 0, 0] := by revert c; decide
theorem off9 (c : Dev nD) : c ≠ 2 → k0_off9 c = ![(0 : Fin 2).val, (slot c 2).val] := by revert c; decide
theorem off10 (c : Dev nD) : c ≠ 2 → k0_off10 c = ![(0 : Fin 2).val, (slot c 2).val, 0, 0] := by revert c; decide
theorem off11 (c : Dev nD) : c ≠ 2 → k0_off11 c = ![(1 : Fin 2).val, (slot c 2).val] := by revert c; decide
theorem off12 (c : Dev nD) : c ≠ 2 → k0_off12 c = ![(1 : Fin 2).val, (slot c 2).val, 0, 0] := by revert c; decide
theorem off13 (c : Dev nD) : c ≠ 3 → k0_off13 c = ![(0 : Fin 2).val, (slot c 3).val] := by revert c; decide
theorem off14 (c : Dev nD) : c ≠ 3 → k0_off14 c = ![(0 : Fin 2).val, (slot c 3).val, 0, 0] := by revert c; decide
theorem off15 (c : Dev nD) : c ≠ 3 → k0_off15 c = ![(1 : Fin 2).val, (slot c 3).val] := by revert c; decide
theorem off16 (c : Dev nD) : c ≠ 3 → k0_off16 c = ![(1 : Fin 2).val, (slot c 3).val, 0, 0] := by revert c; decide

theorem dev12_eq (c : Dev nD) (h) : (⟨k0_dev12 c, h⟩ : Dev nD) = pr c 0 := by revert h; revert c; decide
theorem dev13_eq (c : Dev nD) (h) : (⟨k0_dev13 c, h⟩ : Dev nD) = pr c 1 := by revert h; revert c; decide
theorem dev14_eq (c : Dev nD) (h) : (⟨k0_dev14 c, h⟩ : Dev nD) = pr c 2 := by revert h; revert c; decide
theorem dev15_eq (c : Dev nD) (h) : (⟨k0_dev15 c, h⟩ : Dev nD) = pr c 0 := by revert h; revert c; decide
theorem dev16_eq (c : Dev nD) (h) : (⟨k0_dev16 c, h⟩ : Dev nD) = pr c 1 := by revert h; revert c; decide
theorem dev17_eq (c : Dev nD) (h) : (⟨k0_dev17 c, h⟩ : Dev nD) = pr c 2 := by revert h; revert c; decide

theorem cond17 (c : Dev nD) : k0_cond17 c = 1#1 ↔ c ≠ 0 := by revert c; decide
theorem cond18 (c : Dev nD) : k0_cond18 c = 1#1 ↔ c ≠ 1 := by revert c; decide
theorem cond19 (c : Dev nD) : k0_cond19 c = 1#1 ↔ c ≠ 2 := by revert c; decide
theorem cond20 (c : Dev nD) : k0_cond20 c = 1#1 ↔ c ≠ 3 := by revert c; decide
theorem cond21 (c : Dev nD) : k0_cond21 c = 1#1 ↔ c ≠ 0 := by revert c; decide
theorem cond22 (c : Dev nD) : k0_cond22 c = 1#1 ↔ c ≠ 1 := by revert c; decide
theorem cond23 (c : Dev nD) : k0_cond23 c = 1#1 ↔ c ≠ 2 := by revert c; decide
theorem cond24 (c : Dev nD) : k0_cond24 c = 1#1 ↔ c ≠ 3 := by revert c; decide
theorem off17 (c : Dev nD) : c ≠ 0 → k0_off17 c = ![(0 : Fin 2).val, (slot 0 c).val, 0, 0] := by revert c; decide
theorem off18 (c : Dev nD) : c ≠ 1 → k0_off18 c = ![(0 : Fin 2).val, (slot 1 c).val, 0, 0] := by revert c; decide
theorem off19 (c : Dev nD) : c ≠ 2 → k0_off19 c = ![(0 : Fin 2).val, (slot 2 c).val, 0, 0] := by revert c; decide
theorem off20 (c : Dev nD) : c ≠ 3 → k0_off20 c = ![(0 : Fin 2).val, (slot 3 c).val, 0, 0] := by revert c; decide
theorem off21 (c : Dev nD) : c ≠ 0 → k0_off21 c = ![(1 : Fin 2).val, (slot 0 c).val, 0, 0] := by revert c; decide
theorem off22 (c : Dev nD) : c ≠ 1 → k0_off22 c = ![(1 : Fin 2).val, (slot 1 c).val, 0, 0] := by revert c; decide
theorem off23 (c : Dev nD) : c ≠ 2 → k0_off23 c = ![(1 : Fin 2).val, (slot 2 c).val, 0, 0] := by revert c; decide
theorem off24 (c : Dev nD) : c ≠ 3 → k0_off24 c = ![(1 : Fin 2).val, (slot 3 c).val, 0, 0] := by revert c; decide

/-! ## The steps -/

section Steps
variable (m : (ℓ : Loc nD τ sig) → Buf (Elt F) ℓ) (K : Dev nD × CK → ℕ)

/-- Before and after the block for target `t` in the first exchange: nothing if the device is `t` itself. -/
def blkPre (c t : Dev nD) : sProp 𝕄 := if c = t then iprop(emp) else iprop(half c t 0 ∗ half c t 1)
def blkPost (c t : Dev nD) : sProp 𝕄 := if c = t then iprop(emp) else iprop(rcv c (0, 0, slot c t) ∗ rcv c (0, 1, slot c t))

/-- The block for target `t`, sent on every device but `t`. -/
theorem wp_blk (c t : Dev nD) {b : BitVec 1} (hb : b = 1#1 ↔ c ≠ t) (O : CellTallies nD τ sig Unit)
    {α : Type} {Q : α → sProp 𝕄} {A : b = 1#1 → Prog (TpuEff nD τ sig (Elt F) Λ₀ .tc) α} {Kn : Prog (TpuEff nD τ sig (Elt F) Λ₀ .tc) α}
    (hA : ∀ h : b = 1#1, c ≠ t → iprop(records m K ∗ ow c (O + owRs c t 1 + owRs c t 0) ∗ half c t 0 ∗ half c t 1)
      ⊢ iprop(((ow c O ∗ rcv c (0, 0, slot c t) ∗ rcv c (0, 1, slot c t)) -∗ wpc c Kn Q) -∗ wpc c (A h) Q)) :
    iprop(records m K ∗ ow c (O + blk c t) ∗ blkPre c t)
      ⊢ iprop(((ow c O ∗ blkPost c t) -∗ wpc c Kn Q) -∗ wpc c (dite (b = 1#1) A fun _ => Kn) Q) := by
  unfold blk blkPre blkPost
  by_cases h : c = t
  · rw [if_pos h, if_pos h, if_pos h, dif_neg (fun e => hb.mp e h), add_zero]
    iintro ⟨-, HO, -⟩ Hk
    iapply Hk
    isplitl [HO]; · iexact HO
    iempintro
  · rw [if_neg h, if_neg h, if_neg h, dif_pos (hb.mpr h), ← add_assoc]
    exact hA (hb.mpr h) h

/-- The sum buffer once the steps of the targets below `n` are done: it holds the device's own part if it is one of them. -/
def ownB (c : Dev nD) (n : ℕ) : sProp 𝕄 :=
  iprop(∃ f : Buf (Elt F) ((c : Thread nD τ).loc (cc0_scratch2 : Ref sig .tc)), ⌜c.val < n → f = ownSt m c⌝ ∗ ((c : Thread nD τ).loc cc0_scratch2 ↦{fullShare} f))

theorem hz2 : (![0, 0] : Fin 2 → Nat) = fun _ => 0 := funext fun a => by fin_cases a <;> rfl
theorem hz3 : (![0, 0, 0] : Fin 3 → Nat) = fun _ => 0 := funext fun a => by fin_cases a <;> rfl

/-- The own part stored, on device `t` only. -/
theorem wp_own (c t : Dev nD) (n n' : ℕ) (hn : n = t.val) (hn' : n' = t.val + 1) {b : BitVec 1} (hb : b = 1#1 ↔ c = t)
    {i : ∀ a, (![0, 0] : Fin 2 → Nat) a + S256x256.size a ≤ S256x256.size a}
    {v : FVec F S256x256 .f32} (hv : c = t → v = ownSt m c)
    {hl : oM.view.LoadsAt (Rect.unit (s := S256x256) ![0, 0] S256x256.size i).toLoadRect}
    {hx : (oM.access (Rect.unit (s := S256x256) ![0, 0] S256x256.size i)).Stores Finset.univ}
    {hm : (Finset.univ : Finset (Rect.unit (s := S256x256) ![0, 0] S256x256.size i).shape.Idx) = Finset.univ
      ∨ ∀ a, (Rect.unit (s := S256x256) ![0, 0] S256x256.size i).stride a = 1}
    {α : Type} {Q : α → sProp 𝕄} {Kn : Prog (TpuEff nD τ sig (Elt F) Λ₀ .tc) α} :
    ownB m c n ⊢ iprop((ownB m c n' -∗ wpc c Kn Q) -∗ wpc c (dite (b = 1#1) (fun _ =>
      .op (.load oM (Rect.unit (s := S256x256) ![0, 0] S256x256.size i).toLoadRect hl) fun _ =>
      .op (.store oM (Rect.unit (s := S256x256) ![0, 0] S256x256.size i) v Finset.univ hx hm) fun _ => Kn) fun _ => Kn) Q) := by
  subst hn hn'
  unfold ownB
  by_cases h : c = t
  · rw [dif_pos (hb.mpr h), hv h]
    iintro ⟨%f, %hf, H⟩ Hk
    iapply (wp_load 𝒱₀ (c : Thread nD τ) none Set.univ (m := oM) (Finset.subset_univ _)) $$ H
    iintro H
    iapply (wp_store 𝒱₀ (c : Thread nD τ) none Set.univ (m := oM) (r := Rect.unit (s := S256x256) ![0, 0] S256x256.size i) (Mk := Finset.univ) (Finset.subset_univ _)) $$ H
    iintro H
    iapply Hk
    iexists _
    isplitr; swap; · iexact H
    ipureintro
    exact fun _ => Memref.write_access_unit_zero_univ (Elt F) cc0_scratch2 hz2 _ f (ownSt m c)
  · rw [dif_neg (fun e => h (hb.mp e))]
    iintro ⟨%f, %hf, H⟩ Hk
    iapply Hk
    iexists f
    isplitr; swap; · iexact H
    ipureintro
    exact fun hn => hf (lt_of_le_of_ne (Nat.lt_succ_iff.mp hn) (fun e => h (Fin.ext e)))

/-- Block `(w, t)` of the result once the own halves are stored. -/
def yMid (c : Dev nD) (x : Fin 2 × Fin 4) : sProp 𝕄 :=
  if c = x.2 then piece c yM (rY x) fullShare (yVal m x c) else anyPiece c yM (rY x)

/-- The own half stored, on device `t` only. -/
theorem wp_out_own (c : Dev nD) (x : Fin 2 × Fin 4) {b : BitVec 1} (hb : b = 1#1 ↔ c = x.2)
    {o : Fin 3 → Nat} (ho : o = ![0, 0, 256 * x.2.val + 128 * x.1.val])
    {i : ∀ a, o a + S1x256x128.size a ≤ S1x256x1024.size a} {v : FVec F S1x256x128 .f32} (hv : v = k0_pay40 (total m x.1 c))
    {hl : yM.view.LoadsAt (Rect.unit (s := S1x256x1024) o S1x256x128.size i).toLoadRect}
    {hx : (yM.access (Rect.unit (s := S1x256x1024) o S1x256x128.size i)).Stores Finset.univ}
    {hm : (Finset.univ : Finset (Rect.unit (s := S1x256x1024) o S1x256x128.size i).shape.Idx) = Finset.univ
      ∨ ∀ a, (Rect.unit (s := S1x256x1024) o S1x256x128.size i).stride a = 1}
    {α : Type} {Q : α → sProp 𝕄} {Kn : Prog (TpuEff nD τ sig (Elt F) Λ₀ .tc) α} :
    anyPiece c yM (rY x) ⊢ iprop((yMid m c x -∗ wpc c Kn Q) -∗ wpc c (dite (b = 1#1) (fun _ =>
      .op (.load yM (Rect.unit (s := S1x256x1024) o S1x256x128.size i).toLoadRect hl) fun _ =>
      .op (.store yM (Rect.unit (s := S1x256x1024) o S1x256x128.size i) v Finset.univ hx hm) fun _ => Kn) fun _ => Kn) Q) := by
  subst ho hv
  unfold yMid
  by_cases h : c = x.2
  · have hy : yVal m x c = k0_pay40 (total m x.1 c) := by unfold yVal; rw [if_pos h]
    rw [dif_pos (hb.mpr h), if_pos h, hy]
    iintro H Hk
    iapply (wp_load_any c (M := yM) (r := rY x)) $$ H
    iintro %X H
    iapply (wp_store_piece c (M := yM) (r := rY x)) $$ H
    iintro H
    iapply Hk
    iexact H
  · rw [dif_neg (fun e => h (hb.mp e)), if_neg h]
    iintro H Hk
    iapply Hk
    iexact H

/-- The three landed halves `w` of the second exchange. -/
def landedAll (c : Dev nD) (w : Fin 2) : sProp 𝕄 :=
  iprop(piece c gM (rR (w, 0)) fullShare (gVal m (w, 0) c) ∗ piece c gM (rR (w, 1)) fullShare (gVal m (w, 1) c) ∗ piece c gM (rR (w, 2)) fullShare (gVal m (w, 2) c))

theorem landedAll_take (c : Dev nD) (w : Fin 2) (j : Fin 3) :
    landedAll m c w ⊢ iprop(piece c gM (rR (w, j)) fullShare (gVal m (w, j) c) ∗ (piece c gM (rR (w, j)) fullShare (gVal m (w, j) c) -∗ landedAll m c w)) := by
  unfold landedAll
  fin_cases j
  · iintro ⟨H0, H1, H2⟩
    isplitl [H0]; · iexact H0
    iintro H0
    isplitl [H0]; · iexact H0
    isplitl [H1] <;> iassumption
  · iintro ⟨H0, H1, H2⟩
    isplitl [H1]; · iexact H1
    iintro H1
    isplitl [H0]; · iexact H0
    isplitl [H1]; · iexact H1
    iexact H2
  · iintro ⟨H0, H1, H2⟩
    isplitl [H2]; · iexact H2
    iintro H2
    isplitl [H0]; · iexact H0
    isplitl [H1]; · iexact H1
    iexact H2

/-- A landed half stored, on every device but `t`. -/
theorem wp_out_ag (c : Dev nD) (x : Fin 2 × Fin 4) {b : BitVec 1} (hb : b = 1#1 ↔ c ≠ x.2)
    {o : Fin 3 → Nat} (ho : o = ![0, 0, 256 * x.2.val + 128 * x.1.val])
    {o' : Fin 4 → Nat} (ho' : c ≠ x.2 → o' = ![x.1.val, (slot x.2 c).val, 0, 0])
    {i : ∀ a, o a + S1x256x128.size a ≤ S1x256x1024.size a} {i' : b = 1#1 → ∀ a, o' a + S1x1x256x128.size a ≤ S2x3x256x128.size a}
    {v : Vec F S1x1x256x128 .bf16 → FVec F S1x256x128 .f32} (hv : v = k0_pay48)
    {hl' : ∀ h : b = 1#1, gM.view.LoadsAt (Rect.unit (s := S2x3x256x128) o' S1x1x256x128.size (i' h)).toLoadRect}
    {hl : yM.view.LoadsAt (Rect.unit (s := S1x256x1024) o S1x256x128.size i).toLoadRect}
    {hx : (yM.access (Rect.unit (s := S1x256x1024) o S1x256x128.size i)).Stores Finset.univ}
    {hm : (Finset.univ : Finset (Rect.unit (s := S1x256x1024) o S1x256x128.size i).shape.Idx) = Finset.univ
      ∨ ∀ a, (Rect.unit (s := S1x256x1024) o S1x256x128.size i).stride a = 1}
    {α : Type} {Q : α → sProp 𝕄} {Kn : Prog (TpuEff nD τ sig (Elt F) Λ₀ .tc) α} :
    iprop(landedAll m c x.1 ∗ yMid m c x)
      ⊢ iprop(((landedAll m c x.1 ∗ piece c yM (rY x) fullShare (yVal m x c)) -∗ wpc c Kn Q) -∗ wpc c (dite (b = 1#1) (fun h =>
      .op (.load gM (Rect.unit (s := S2x3x256x128) o' S1x1x256x128.size (i' h)).toLoadRect (hl' h)) fun X =>
      .op (.load yM (Rect.unit (s := S1x256x1024) o S1x256x128.size i).toLoadRect hl) fun _ =>
      .op (.store yM (Rect.unit (s := S1x256x1024) o S1x256x128.size i) (v X) Finset.univ hx hm) fun _ => Kn) fun _ => Kn) Q) := by
  subst ho hv
  unfold yMid
  by_cases h : c = x.2
  · rw [dif_neg (fun e => hb.mp e h), if_pos h]
    iintro ⟨Hg, H⟩ Hk
    iapply Hk
    isplitl [Hg] <;> iassumption
  · have hy : yVal m x c = k0_pay48 (gVal m (x.1, slot x.2 c) c) := by unfold yVal; rw [if_neg h]
    have e := ho' h
    subst e
    rw [dif_pos (hb.mpr h), if_neg h, hy]
    iintro ⟨Hg, H⟩ Hk
    ihave Hg := (landedAll_take m c x.1 (slot x.2 c)) $$ Hg
    icases Hg with ⟨Hg, Hback⟩
    iapply (wp_load_piece c (M := gM) (r := rR (x.1, slot x.2 c))) $$ Hg
    iintro Hg
    iapply (wp_load_any c (M := yM) (r := rY x)) $$ H
    iintro %X H
    iapply (wp_store_piece c (M := yM) (r := rY x)) $$ H
    iintro H
    iapply Hk
    isplitl [Hg Hback]
    · iapply Hback; iexact Hg
    iexact H

end Steps

end Cert.KernelIdeal.Hand

end
-- ==== Proof.Parts.lean ====
/-
# The parts of the body, up to the first exchange

One theorem per part of the program: what it needs, what it leaves, and the value it returns.
-/
module

public import proofs.«01_k».proof.Proof.Steps

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (m : (ℓ : Loc nD τ sig) → Buf (Elt F) ℓ) (K : Dev nD × CK → ℕ)

/-- A program that has ended. -/
theorem wpc_ret (c : Dev nD) {α : Type} (a : α) {Q : α → sProp 𝕄} : Q a ⊢ wpc c (.ret a) Q := by
  show _ ⊢ wp _ _ _ _ _
  rw [wp_ret]
  iintro H; imodintro; iexact H

/-- The operands staged on device `c`. -/
def xIn (c : Dev nD) : sProp 𝕄 := (c : Thread nD τ).loc cc0_stg0_0 ↦{fullShare} xv m c
def wqIn (c : Dev nD) : sProp 𝕄 := (c : Thread nD τ).loc cc0_stg1_0 ↦{fullShare} wqv m c
def woIn (c : Dev nD) : sProp 𝕄 := (c : Thread nD τ).loc cc0_stg2_0 ↦{fullShare} wov m c
def wkIn (c : Dev nD) : sProp 𝕄 := (c : Thread nD τ).loc cc0_stg3_0 ↦{fullShare} wkv m c
def wvIn (c : Dev nD) : sProp 𝕄 := (c : Thread nD τ).loc cc0_stg4_0 ↦{fullShare} wvv m c

/-- The columns of the output weight for target `t` loaded. -/
theorem wp_load_wo (c : Dev nD) (t : Fin 4) {o : Fin 2 → Nat} (ho : o = ![0, 256 * t.val])
    {i : ∀ a, o a + S1024x256.size a ≤ S1024x1024.size a} {hl : woM.view.LoadsAt (Rect.unit (s := S1024x1024) o S1024x256.size i).toLoadRect}
    {α : Type} {Q : α → sProp 𝕄} {k : Vec F S1024x256 .f32 → Prog (TpuEff nD τ sig (Elt F) Λ₀ .tc) α} :
    woIn m c ⊢ iprop((woIn m c -∗ wpc c (k (woCols m t c)) Q) -∗ wpc c (.op (.load woM (Rect.unit (s := S1024x1024) o S1024x256.size i).toLoadRect hl) k) Q) := by
  subst ho
  unfold woIn
  exact wp_load_rect 𝒱₀ (c : Thread nD τ) none Set.univ (m := woM) (r := rW t) (Finset.subset_univ _)

/-- A load of the whole of a staged operand reads its contents. -/
theorem read_x (f : (cc0_stg0_0 : Ref sig .tc).ty.Contents (Elt F)) :
    xM.view.readAt (Elt F) (Rect.unit (s := S1x256x1024) ![0, 0, 0] S1x256x1024.size inb_S1x256x1024_S1x256x1024_0_0_0).toLoadRect f = f :=
  Memref.readAt_unit_zero (Elt F) cc0_stg0_0 hz3 _ f
theorem read_wq (f : (cc0_stg1_0 : Ref sig .tc).ty.Contents (Elt F)) :
    wqM.view.readAt (Elt F) (Rect.unit (s := S1024x1024) ![0, 0] S1024x1024.size inb_S1024x1024_S1024x1024_0_0).toLoadRect f = f :=
  Memref.readAt_unit_zero (Elt F) cc0_stg1_0 hz2 _ f
theorem read_wk (f : (cc0_stg3_0 : Ref sig .tc).ty.Contents (Elt F)) :
    wkM.view.readAt (Elt F) (Rect.unit (s := S1024x1024) ![0, 0] S1024x1024.size inb_S1024x1024_S1024x1024_0_0).toLoadRect f = f :=
  Memref.readAt_unit_zero (Elt F) cc0_stg3_0 hz2 _ f
theorem read_wv (f : (cc0_stg4_0 : Ref sig .tc).ty.Contents (Elt F)) :
    wvM.view.readAt (Elt F) (Rect.unit (s := S1024x1024) ![0, 0] S1024x1024.size inb_S1024x1024_S1024x1024_0_0).toLoadRect f = f :=
  Memref.readAt_unit_zero (Elt F) cc0_stg4_0 hz2 _ f

/-- The sum buffer holding the device's own part. -/
def ownI (c : Dev nD) : sProp 𝕄 := (c : Thread nD τ).loc cc0_scratch2 ↦{fullShare} ownSt m c

theorem ownB_all (c : Dev nD) : ownB m c 4 ⊢ ownI m c := by
  unfold ownB ownI
  iintro ⟨%f, %hf, H⟩
  rw [hf c.isLt]
  iexact H

/-- Half `w` of it loaded. -/
theorem wp_load_own (c : Dev nD) (w : Fin 2) {o : Fin 2 → Nat} (ho : o = ![0, 128 * w.val])
    {i : ∀ a, o a + S256x128.size a ≤ S256x256.size a} {hl : oM.view.LoadsAt (Rect.unit (s := S256x256) o S256x128.size i).toLoadRect}
    {α : Type} {Q : α → sProp 𝕄} {k : Vec F S256x128 .f32 → Prog (TpuEff nD τ sig (Elt F) Λ₀ .tc) α} :
    ownI m c ⊢ iprop((ownI m c -∗ wpc c (k (ownHalf m w c)) Q) -∗ wpc c (.op (.load oM (Rect.unit (s := S256x256) o S256x128.size i).toLoadRect hl) k) Q) := by
  subst ho
  unfold ownI
  exact wp_load_rect 𝒱₀ (c : Thread nD τ) none Set.univ (m := oM) (r := rO w) (Finset.subset_univ _)

/-- A piece held at two contents that read alike is the same at either. -/
theorem piece_read (c : Dev nD) {sp : Space} {s : Shape} {e : EltTy} (M : Memref sig .tc sp s e) (r : Rect s) (q : PosShare TreeShare)
    (f g : Buf (Elt F) ((M.access r).loc (c : Thread nD τ))) (h : (M.access r).read (Elt F) f = (M.access r).read (Elt F) g) :
    ((M.access r).loc (c : Thread nD τ) ↦[(M.access r).set]{q} f : sProp 𝕄) = ((M.access r).loc (c : Thread nD τ) ↦[(M.access r).set]{q} g) :=
  pointsTo_congr fun i hi => by
    obtain ⟨y, -, rfl⟩ := Finset.mem_map.mp hi
    have := congrFun h y
    unfold View.read at this
    exact cast_inj _ |>.1 this

/-- A piece is its three shares. -/
theorem piece_thirds (c : Dev nD) {sp : Space} {s : Shape} {e : EltTy} (M : Memref sig .tc sp s e) (r : Rect s) (X : r.shape.Idx → Elt F e) :
    (piece c M r fullShare X : sProp 𝕄) ⊣⊢ iprop(piece c M r (sh 0) X ∗ piece c M r (sh 1) X ∗ piece c M r (sh 2) X) := by
  unfold piece sh
  refine ⟨?_, ?_⟩
  · iintro ⟨%f, %hf, H⟩
    ihave H := (pointsTo_share (PosShare.mem_left_op_right fullShare)).1 $$ H
    icases H with ⟨H0, H⟩
    ihave H := (pointsTo_share (PosShare.mem_left_op_right fullShare.right)).1 $$ H
    icases H with ⟨H1, H2⟩
    isplitl [H0]
    · iexists f; isplitr; · ipureintro; exact hf
      iexact H0
    isplitl [H1]
    · iexists f; isplitr; · ipureintro; exact hf
      iexact H1
    iexists f; isplitr; · ipureintro; exact hf
    iexact H2
  · iintro ⟨⟨%f, %hf, H0⟩, ⟨%f1, %hf1, H1⟩, ⟨%f2, %hf2, H2⟩⟩
    ihave H1 := (Entails.of_eq (piece_read c M r _ f1 f (hf1.trans hf.symm))) $$ H1
    ihave H2 := (Entails.of_eq (piece_read c M r _ f2 f (hf2.trans hf.symm))) $$ H2
    iexists f; isplitr; · ipureintro; exact hf
    iapply (pointsTo_share (PosShare.mem_left_op_right fullShare)).2
    isplitl [H0]; · iexact H0
    iapply (pointsTo_share (PosShare.mem_left_op_right fullShare.right)).2
    isplitl [H1] <;> iassumption

/-- What a transfer of the second exchange needs: its share of the source, the peer's slot, the two duties. -/
def agIn (c : Dev nD) (w : Fin 2) (j : Fin 3) : sProp 𝕄 :=
  iprop(piece c bM (rB w) (sh j) (bVal m w c) ∗ anyPiece (pr c j) gM (rR (w, j)) ∗ kit c 2 3 w j)
theorem agIn_intro (c : Dev nD) (w : Fin 2) (j : Fin 3) :
    iprop(piece c bM (rB w) (sh j) (bVal m w c) ∗ anyPiece (pr c j) gM (rR (w, j)) ∗ kit c 2 3 w j) ⊢ agIn m c w j := by
  unfold agIn; exact BIBase.Entails.refl

theorem agIn_elim (c : Dev nD) (w : Fin 2) (j : Fin 3) :
    agIn m c w j ⊢ iprop(piece c bM (rB w) (sh j) (bVal m w c) ∗ anyPiece (pr c j) gM (rR (w, j)) ∗ kit c 2 3 w j) := by
  unfold agIn; exact BIBase.Entails.refl

theorem landedAll_intro (c : Dev nD) (w : Fin 2) :
    iprop(dmaPay m (3, w, 0) c ∗ dmaPay m (3, w, 1) c ∗ dmaPay m (3, w, 2) c) ⊢ landedAll m c w := by
  unfold landedAll dmaPay; exact BIBase.Entails.refl

/-- What a barrier signal needs: the duty at the peer, and the landing slots it hands over. -/
def barKit (c : Dev nD) (j : Fin 3) : sProp 𝕄 := iprop(dutyTok ER (cell (sd c j) none) 0 j ∗ slots c j)

/-- Two barrier signals. -/
theorem part5 (c : Dev nD) {Q : (Σ' (d0 : Dev nD) (v2 : BitVec 32) (v3 : Sems sig S_) (v30 : BitVec 32) (c4_i32_18 : BitVec 32), BitVec 1) → sProp 𝕄} :
    iprop(records m K ∗ ow c (O₀ c) ∗ barKit c 2 ∗ barKit c 1)
      ⊢ iprop((ow c (oRs c + owBar c 0) -∗ Q ⟨c, word c, SemArray.scalar (sig.barrier 0 rfl), Scalar.addi (word c) 3#32, 4#32, Scalar.cmpi .eq 4#32 0#32⟩)
        -∗ wpc c (k0_part5 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8) Q) := by
  rw [k0_part5_eq_skeleton]
  unfold k0_part5_skel
  simp only [semSignalWord, semWaitWord, Prog.lift, Prog.bind_op, Prog.bind_ret, Prog.pure_eq_ret, wp_deviceId]
  unfold barKit O₀ word
  iintro ⟨#HR, HO, H2, H1⟩ Hk
  iapply (wp_bar_signal m K c 2 _ (dev1_eq c _) _ rfl (oRs c + owBar c 0 + owBar c 1)) $$ [HO H2]
  · isplitr; · iexact HR
    isplitl [HO]; · iexact HO
    iexact H2
  iintro HO
  iapply (wp_bar_signal m K c 1 _ (dev2_eq c _) _ rfl (oRs c + owBar c 0)) $$ [HO H1]
  · isplitr; · iexact HR
    isplitl [HO]; · iexact HO
    iexact H1
  iintro HO
  iapply wpc_ret
  iapply Hk
  iexact HO

set_option maxHeartbeats 2000000 in
/-- The third signal and the wait: the peers' landing slots are the device's to write. Then the first products. -/
theorem part6 (c : Dev nD) (v30 c4 : BitVec 32) (v31 : BitVec 1) {Q : (Σ' (v47 : FVec F S256x1024 .f32) (v50 : FVec F S256x1024 .f32) (v53 : FVec F S256x1024 .f32) (v63 : FVec F S256x128 .f32), FVec F S256x128 .f32) → sProp 𝕄} :
    iprop(records m K ∗ levAts L lv ∗ ow c (oRs c + owBar c 0) ∗ barKit c 0 ∗ cred (tallyAt (cell c none) () 3) ∗ atPos ER (cell c none) 0 ∅ 0
        ∗ xIn m c ∗ wqIn m c ∗ wkIn m c ∗ wvIn m c)
      ⊢ iprop(((ow c (oRs c) ∗ semVal (cell c none) 0 ∗ slots (pr c 0) 0 ∗ slots (pr c 1) 1 ∗ slots (pr c 2) 2 ∗ xIn m c ∗ wqIn m c ∗ wkIn m c ∗ wvIn m c)
          -∗ Q ⟨qv m c, kv m c, vv m c, k0_pay14 (xv m c) (wqv m c) (wkv m c) (wvv m c), k0_pay15 (xv m c) (wqv m c) (wkv m c)⟩)
        -∗ wpc c (k0_part6 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8
          c (SemArray.scalar (sig.barrier 0 rfl)) v30 c4 v31) Q) := by
  rw [k0_part6_eq_skeleton]
  unfold k0_part6_skel
  simp only [semSignalWord, semWaitWord, Prog.lift, Prog.bind_op, Prog.bind_ret, Prog.pure_eq_ret]
  unfold barKit xIn wqIn wkIn wvIn qv kv vv
  iintro ⟨#HR, #Hlev, HO, H0, Hc, Ha, Hx, Hwq, Hwk, Hwv⟩ Hk
  iapply (wp_bar_signal m K c 0 _ (dev3_eq c _) _ rfl (oRs c)) $$ [HO H0]
  · isplitr; · iexact HR
    isplitl [HO]; · iexact HO
    iexact H0
  iintro HO
  iapply (wp_bar_wait m K c _ rfl (oRs c) (above_oRs c)) $$ [HO Hc Ha]
  · isplitr; · iexact HR
    isplitr; · iexact Hlev
    isplitl [HO]; · iexact HO
    isplitl [Hc] <;> iassumption
  iintro ⟨HO, Hz, H0, H1, H2⟩
  iapply (wp_load 𝒱₀ (c : Thread nD τ) none Set.univ (m := xM) (Finset.subset_univ _)) $$ Hx
  iintro Hx
  iapply (wp_load 𝒱₀ (c : Thread nD τ) none Set.univ (m := wqM) (Finset.subset_univ _)) $$ Hwq
  iintro Hwq
  iapply (wp_load 𝒱₀ (c : Thread nD τ) none Set.univ (m := wkM) (Finset.subset_univ _)) $$ Hwk
  iintro Hwk
  iapply (wp_load 𝒱₀ (c : Thread nD τ) none Set.univ (m := wvM) (Finset.subset_univ _)) $$ Hwv
  iintro Hwv
  rw [read_x, read_wq, read_wk, read_wv]
  iapply wpc_ret
  iapply Hk
  isplitl [HO]; · iexact HO
  isplitl [Hz]; · iexact Hz
  isplitl [H0]; · iexact H0
  isplitl [H1]; · iexact H1
  isplitl [H2]; · iexact H2
  isplitl [Hx]; · iexact Hx
  isplitl [Hwq]; · iexact Hwq
  isplitl [Hwk]; · iexact Hwk
  iexact Hwv

/-- The seventh part computes only. -/
theorem part7 (c : Dev nD) (v47 v50 v53 : FVec F S256x1024 .f32) (v63 v64 : FVec F S256x128 .f32)
    {Q : (Σ' (v65 : FVec F S256x128 .f32) (v77 : FVec F S256x128 .f32) (v89 : FVec F S256x128 .f32) (v101 : FVec F S256x128 .f32) (v104 : FVec F S256x128 .f32) (v108 : FVec F S256x256 .f32), FVec F S256 .f32) → sProp 𝕄} :
    Q ⟨k0_pay16 v63 v64, k0_pay17 v47 v50 v53, k0_pay18 v47 v50 v53, k0_pay19 v47 v50 v53, k0_pay20 v53, k0_pay21 v47 v50, k0_pay22 v47 v50⟩
      ⊢ wpc c (k0_part7 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8
          v47 v50 v53 v63 v64) Q := by
  rw [k0_part7_eq_skeleton]
  exact wpc_ret c _

/-- The attention output, and the partial product for target 0. -/
theorem part8 (c : Dev nD) {Q : (Σ' (v150 : FVec F S256x1024 .f32), FVec F S256x256 .f32) → sProp 𝕄} :
    woIn m c
      ⊢ iprop((woIn m c -∗ Q ⟨attn m c, chunk m 0 c⟩)
        -∗ wpc c (k0_part8 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8
          (qv m c) (kv m c) (vv m c) (k0_pay16 (k0_pay14 (xv m c) (wqv m c) (wkv m c) (wvv m c)) (k0_pay15 (xv m c) (wqv m c) (wkv m c)))
          (k0_pay17 (qv m c) (kv m c) (vv m c)) (k0_pay18 (qv m c) (kv m c) (vv m c)) (k0_pay19 (qv m c) (kv m c) (vv m c))
          (k0_pay20 (vv m c)) (k0_pay21 (qv m c) (kv m c)) (k0_pay22 (qv m c) (kv m c))) Q) := by
  rw [k0_part8_eq_skeleton]
  unfold chunk attn
  unfold k0_part8_skel
  simp only [Prog.lift, Prog.bind_op, Prog.bind_ret, Prog.pure_eq_ret]
  iintro H Hk
  iapply (wp_load_wo m c 0 rfl) $$ H
  iintro H
  rw [show ∀ a0 a1 a2 a3 a4 a5 a6 a7 a8 a9 w, k0_pay24 (F := F) a0 a1 a2 a3 a4 a5 a6 a7 a8 a9 w = k0_pay27 (k0_pay23 a0 a1 a2 a3 a4 a5 a6 a7 a8 a9) w from fun _ _ _ _ _ _ _ _ _ _ _ => rfl]
  iapply wpc_ret
  iapply Hk
  iexact H

/-- The two halves of a block as sent. -/
theorem sendVal_0 (t : Fin 4) (c : Dev nD) : k0_pay1 (chunk m t c) = sendVal m (0, t) c := rfl
theorem sendVal_1 (t : Fin 4) (c : Dev nD) : k0_pay25 (k0_pay2 (chunk m t c)) = sendVal m (1, t) c := rfl
theorem ownSt_eq (c t : Dev nD) (h : c = t) : k0_pay26 (chunk m t c) = ownSt m c := by subst h; rfl

set_option maxHeartbeats 2000000 in
/-- The four blocks of the partial product: each is sent to its target, and the own one stored. -/
theorem part9 (c : Dev nD) {Q : FVec F S256x256 .f32 → sProp 𝕄} :
    iprop(records m K ∗ ow c (oRs c) ∗ blkPre c 0 ∗ blkPre c 1 ∗ blkPre c 2 ∗ blkPre c 3 ∗ ownB m c 0 ∗ woIn m c)
      ⊢ iprop(((ow c (oAg c) ∗ blkPost c 0 ∗ blkPost c 1 ∗ blkPost c 2 ∗ blkPost c 3 ∗ ownB m c 3 ∗ woIn m c) -∗ Q (chunk m 3 c))
        -∗ wpc c (k0_part9 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8
          c (word c) (attn m c) (chunk m 0 c)) Q) := by
  rw [k0_part9_eq_skeleton]
  unfold k0_part9_skel
  iintro ⟨#HR, HO, H0, H1, H2, H3, Hown, Hwo⟩ Hk
  extract_lets -underBinder jp0
  iapply (wp_blk m K c 0 (cond1 c) (oAg c + blk c 3 + blk c 2 + blk c 1) (Kn := jp0 ⟨⟩)) $$ [HO H0]
  · intro h hc
    simp only [k0_part1_eq_skeleton]; unfold k0_part1_skel
    simp only [Prog.lift, Prog.bind_op, Prog.bind_ret, Prog.pure_eq_ret]
    iintro ⟨#HR, HO, H0, H1⟩ Hk
    iapply (wp_half m K c 0 hc 0 _ rfl ((oAg c + blk c 3 + blk c 2 + blk c 1) + owRs c 0 1) rfl (off2 c hc) (off1 c hc) (sendVal_0 m 0 c)) $$ [HO H0]
    · isplitr; · iexact HR
      isplitl [HO]; · iexact HO
      iexact H0
    iintro ⟨HO, H0⟩
    iapply (wp_half m K c 0 hc 1 _ rfl (oAg c + blk c 3 + blk c 2 + blk c 1) rfl (off4 c hc) (off3 c hc) (sendVal_1 m 0 c)) $$ [HO H1]
    · isplitr; · iexact HR
      isplitl [HO]; · iexact HO
      iexact H1
    iintro ⟨HO, H1⟩
    iapply Hk
    isplitl [HO]; · iexact HO
    isplitl [H0]; · iexact H0
    iexact H1
  · isplitr; · iexact HR
    isplitl [HO]; · iexact HO
    iexact H0
  iintro ⟨HO, H0⟩
  simp -zeta only [jp0]
  extract_lets -underBinder a0 b0 e0 jo0
  iapply (wp_own m c 0 0 1 rfl rfl (own_cond 0 c) (Kn := jo0 ⟨⟩) (ownSt_eq m c 0)) $$ Hown
  iintro Hown
  simp -zeta only [jo0]
  simp -zeta only [Prog.lift, Prog.bind_op, Prog.bind_ret, Prog.pure_eq_ret]
  iapply (wp_load_wo m c 1 rfl) $$ Hwo
  iintro Hwo
  extract_lets -underBinder jp1
  iapply (wp_blk m K c 1 (cond3 c) (oAg c + blk c 3 + blk c 2) (Kn := jp1 ⟨⟩)) $$ [HO H1]
  · intro h hc
    simp only [k0_part2_eq_skeleton]; unfold k0_part2_skel
    simp only [Prog.lift, Prog.bind_op, Prog.bind_ret, Prog.pure_eq_ret]
    iintro ⟨#HR, HO, H0, H1⟩ Hk
    iapply (wp_half m K c 1 hc 0 _ rfl ((oAg c + blk c 3 + blk c 2) + owRs c 1 1) rfl (off6 c hc) (off5 c hc) (sendVal_0 m 1 c)) $$ [HO H0]
    · isplitr; · iexact HR
      isplitl [HO]; · iexact HO
      iexact H0
    iintro ⟨HO, H0⟩
    iapply (wp_half m K c 1 hc 1 _ rfl (oAg c + blk c 3 + blk c 2) rfl (off8 c hc) (off7 c hc) (sendVal_1 m 1 c)) $$ [HO H1]
    · isplitr; · iexact HR
      isplitl [HO]; · iexact HO
      iexact H1
    iintro ⟨HO, H1⟩
    iapply Hk
    isplitl [HO]; · iexact HO
    isplitl [H0]; · iexact H0
    iexact H1
  · isplitr; · iexact HR
    isplitl [HO]; · iexact HO
    iexact H1
  iintro ⟨HO, H1⟩
  simp -zeta only [jp1]
  extract_lets -underBinder a1 b1 e1 jo1
  iapply (wp_own m c 1 1 2 rfl rfl (own_cond 1 c) (Kn := jo1 ⟨⟩) (ownSt_eq m c 1)) $$ Hown
  iintro Hown
  simp -zeta only [jo1]
  iapply (wp_load_wo m c 2 rfl) $$ Hwo
  iintro Hwo
  extract_lets -underBinder jp2
  iapply (wp_blk m K c 2 (cond5 c) (oAg c + blk c 3) (Kn := jp2 ⟨⟩)) $$ [HO H2]
  · intro h hc
    simp only [k0_part3_eq_skeleton]; unfold k0_part3_skel
    simp only [Prog.lift, Prog.bind_op, Prog.bind_ret, Prog.pure_eq_ret]
    iintro ⟨#HR, HO, H0, H1⟩ Hk
    iapply (wp_half m K c 2 hc 0 _ rfl ((oAg c + blk c 3) + owRs c 2 1) rfl (off10 c hc) (off9 c hc) (sendVal_0 m 2 c)) $$ [HO H0]
    · isplitr; · iexact HR
      isplitl [HO]; · iexact HO
      iexact H0
    iintro ⟨HO, H0⟩
    iapply (wp_half m K c 2 hc 1 _ rfl (oAg c + blk c 3) rfl (off12 c hc) (off11 c hc) (sendVal_1 m 2 c)) $$ [HO H1]
    · isplitr; · iexact HR
      isplitl [HO]; · iexact HO
      iexact H1
    iintro ⟨HO, H1⟩
    iapply Hk
    isplitl [HO]; · iexact HO
    isplitl [H0]; · iexact H0
    iexact H1
  · isplitr; · iexact HR
    isplitl [HO]; · iexact HO
    iexact H2
  iintro ⟨HO, H2⟩
  simp -zeta only [jp2]
  extract_lets -underBinder a2 b2 e2 jo2
  iapply (wp_own m c 2 2 3 rfl rfl (own_cond 2 c) (Kn := jo2 ⟨⟩) (ownSt_eq m c 2)) $$ Hown
  iintro Hown
  simp -zeta only [jo2]
  iapply (wp_load_wo m c 3 rfl) $$ Hwo
  iintro Hwo
  extract_lets -underBinder jp3
  iapply (wp_blk m K c 3 (cond7 c) (oAg c) (Kn := jp3 ⟨⟩)) $$ [HO H3]
  · intro h hc
    simp only [k0_part4_eq_skeleton]; unfold k0_part4_skel
    simp only [Prog.lift, Prog.bind_op, Prog.bind_ret, Prog.pure_eq_ret]
    iintro ⟨#HR, HO, H0, H1⟩ Hk
    iapply (wp_half m K c 3 hc 0 _ rfl ((oAg c) + owRs c 3 1) rfl (off14 c hc) (off13 c hc) (sendVal_0 m 3 c)) $$ [HO H0]
    · isplitr; · iexact HR
      isplitl [HO]; · iexact HO
      iexact H0
    iintro ⟨HO, H0⟩
    iapply (wp_half m K c 3 hc 1 _ rfl (oAg c) rfl (off16 c hc) (off15 c hc) (sendVal_1 m 3 c)) $$ [HO H1]
    · isplitr; · iexact HR
      isplitl [HO]; · iexact HO
      iexact H1
    iintro ⟨HO, H1⟩
    iapply Hk
    isplitl [HO]; · iexact HO
    isplitl [H0]; · iexact H0
    iexact H1
  · isplitr; · iexact HR
    isplitl [HO]; · iexact HO
    iexact H3
  iintro ⟨HO, H3⟩
  simp -zeta only [jp3]
  rw [show k0_pay33 (attn m c) (woCols m 3 c) = chunk m 3 c from rfl]
  iapply wpc_ret
  iapply Hk
  isplitl [HO]; · iexact HO
  isplitl [H0]; · iexact H0
  isplitl [H1]; · iexact H1
  isplitl [H2]; · iexact H2
  isplitl [H3]; · iexact H3
  isplitl [Hown]; · iexact Hown
  iexact Hwo

end Parts

end Cert.KernelIdeal.Hand

end
-- ==== Proof.Parts2.lean ====
/-
# The parts of the body, up to the second exchange
-/
module

public import proofs.«01_k».proof.Proof.Parts

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (m : (ℓ : Loc nD τ sig) → Buf (Elt F) ℓ) (K : Dev nD × CK → ℕ)

set_option maxHeartbeats 2000000 in
/-- The own partial product stored on device 3; the first two landings of half 0. -/
theorem part10 (c : Dev nD) {Q : PUnit → sProp 𝕄} :
    iprop(records m K ∗ levAts L lv ∗ ow c (oAg c) ∗ ownB m c 3 ∗ rcv c (1, 0, 0) ∗ rcv c (1, 0, 1))
      ⊢ iprop(((ow c (oAg c) ∗ ownI m c ∗ fin c (1, 0, 0) ∗ dmaPay m (1, 0, 0) c ∗ fin c (1, 0, 1) ∗ dmaPay m (1, 0, 1) c) -∗ Q ⟨⟩)
        -∗ wpc c (k0_part10 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8 (word c) (chunk m 3 c)) Q) := by
  rw [k0_part10_eq_skeleton]
  unfold k0_part10_skel
  iintro ⟨#HR, #Hlev, HO, Hown, Hr100, Hr101⟩ Hk
  extract_lets -underBinder a b e jo
  simp -zeta only [Prog.lift, Prog.bind_op, Prog.bind_ret, Prog.pure_eq_ret]
  iapply (wp_own m c 3 3 4 rfl rfl (own_cond 3 c) (Kn := jo ⟨⟩) (ownSt_eq m c 3)) $$ Hown
  iintro Hown
  ihave Hown := (ownB_all m c) $$ Hown
  simp only [jo, Prog.lift, Prog.bind_op, Prog.bind_ret, Prog.pure_eq_ret]
  iapply (wp_dma_wait m K c (1, 0, 0) _ (sem_eq 1 0 0 _) (oAg c) (by rw [lvS_dma]; exact above_oAg c) rfl) $$ [HO Hr100]
  · isplitr; · iexact HR
    isplitr; · iexact Hlev
    isplitl [HO]; · iexact HO
    iexact Hr100
  iintro ⟨HO, Hf100, Hp100⟩
  iapply (wp_dma_wait m K c (1, 0, 1) _ (sem_eq 1 0 1 _) (oAg c) (by rw [lvS_dma]; exact above_oAg c) rfl) $$ [HO Hr101]
  · isplitr; · iexact HR
    isplitr; · iexact Hlev
    isplitl [HO]; · iexact HO
    iexact Hr101
  iintro ⟨HO, Hf101, Hp101⟩
  iapply wpc_ret
  iapply Hk
  isplitl [HO]; · iexact HO
  isplitl [Hown]; · iexact Hown
  isplitl [Hf100]; · iexact Hf100
  isplitl [Hp100]; · iexact Hp100
  isplitl [Hf101]; · iexact Hf101
  iexact Hp101

set_option maxHeartbeats 2000000 in
/-- The third landing of half 0; the sum of half 0, stored on devices 0, 1 and 2. -/
theorem part11 (c : Dev nD) {Q : FVec F S256x128 .f32 → sProp 𝕄} :
    iprop(records m K ∗ levAts L lv ∗ ow c (oAg c) ∗ ownI m c ∗ rcv c (1, 0, 2) ∗ dmaPay m (1, 0, 0) c ∗ dmaPay m (1, 0, 1) c ∗ anyPiece c yM (rY (0, 0)) ∗ anyPiece c yM (rY (0, 1)) ∗ anyPiece c yM (rY (0, 2)))
      ⊢ iprop(((ow c (oAg c) ∗ ownI m c ∗ fin c (1, 0, 2) ∗ piece c rM (rR (0, 0)) fullShare (rsVal m (0, 0) c) ∗ piece c rM (rR (0, 1)) fullShare (rsVal m (0, 1) c) ∗ piece c rM (rR (0, 2)) fullShare (rsVal m (0, 2) c) ∗ yMid m c (0, 0) ∗ yMid m c (0, 1) ∗ yMid m c (0, 2)) -∗ Q (total m 0 c))
        -∗ wpc c (k0_part11 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8 (word c)) Q) := by
  rw [k0_part11_eq_skeleton]
  unfold k0_part11_skel
  iintro ⟨#HR, #Hlev, HO, Hown, Hr102, Hp100, Hp101, Hy00, Hy01, Hy02⟩ Hk
  simp -zeta only [semSignalWord, semWaitWord, Prog.lift, Prog.bind_op, Prog.bind_ret, Prog.pure_eq_ret]
  iapply (wp_dma_wait m K c (1, 0, 2) _ (sem_eq 1 0 2 _) (oAg c) (by rw [lvS_dma]; exact above_oAg c) rfl) $$ [HO Hr102]
  · isplitr; · iexact HR
    isplitr; · iexact Hlev
    isplitl [HO]; · iexact HO
    iexact Hr102
  iintro ⟨HO, Hf102, Hp102⟩
  iapply (wp_load_own m c 0 rfl) $$ Hown
  iintro Hown
  ihave Hp100 := (Entails.of_eq (show dmaPay m (1, 0, 0) c = piece c rM (rR (0, 0)) fullShare (rsVal m (0, 0) c) from rfl)) $$ Hp100
  iapply (wp_load_piece c (M := rM) (r := rR (0, 0))) $$ Hp100
  iintro Hp100
  ihave Hp101 := (Entails.of_eq (show dmaPay m (1, 0, 1) c = piece c rM (rR (0, 1)) fullShare (rsVal m (0, 1) c) from rfl)) $$ Hp101
  iapply (wp_load_piece c (M := rM) (r := rR (0, 1))) $$ Hp101
  iintro Hp101
  ihave Hp102 := (Entails.of_eq (show dmaPay m (1, 0, 2) c = piece c rM (rR (0, 2)) fullShare (rsVal m (0, 2) c) from rfl)) $$ Hp102
  iapply (wp_load_piece c (M := rM) (r := rR (0, 2))) $$ Hp102
  iintro Hp102
  extract_lets -underBinder aj0 bj0 ej0 j0
  iapply (wp_out_own m c (0, 0) (own_cond 0 c) rfl rfl (Kn := j0 ⟨⟩)) $$ Hy00
  iintro Hy00
  simp -zeta only [j0]
  extract_lets -underBinder aj1 bj1 ej1 j1
  iapply (wp_out_own m c (0, 1) (own_cond 1 c) rfl rfl (Kn := j1 ⟨⟩)) $$ Hy01
  iintro Hy01
  simp -zeta only [j1]
  extract_lets -underBinder aj2 bj2 ej2 j2
  iapply (wp_out_own m c (0, 2) (own_cond 2 c) rfl rfl (Kn := j2 ⟨⟩)) $$ Hy02
  iintro Hy02
  simp -zeta only [j2]
  rw [show k0_pay36 (ownHalf m 0 c) (rsVal m (0, 0) c) (rsVal m (0, 1) c) (rsVal m (0, 2) c) = total m 0 c from rfl]
  iapply wpc_ret
  iapply Hk
  isplitl [HO]; · iexact HO
  isplitl [Hown]; · iexact Hown
  isplitl [Hf102]; · iexact Hf102
  isplitl [Hp100]; · iexact Hp100
  isplitl [Hp101]; · iexact Hp101
  isplitl [Hp102]; · iexact Hp102
  isplitl [Hy00]; · iexact Hy00
  isplitl [Hy01]; · iexact Hy01
  iexact Hy02

set_option maxHeartbeats 2000000 in
/-- The sum of half 0 stored on device 3; rounded, and sent to the first peer. -/
theorem part12 (c : Dev nD) {Q : (Σ' (v261 : BitVec 32) (c4_i32_181 : BitVec 32), BitVec 32) → sProp 𝕄} :
    iprop(records m K ∗ levAts L lv ∗ ow c (oAg c) ∗ anyPiece c yM (rY (0, 3)) ∗ anyPiece c bM (rB 0) ∗ anyPiece (pr c 0) gM (rR (0, 0)) ∗ kit c 2 3 0 0)
      ⊢ iprop(((ow c (oAg1 c + owAg c 0 2 + owAg c 0 1) ∗ yMid m c (0, 3) ∗ rcv c (2, 0, 0) ∗ piece c bM (rB 0) (sh 1) (bVal m 0 c) ∗ piece c bM (rB 0) (sh 2) (bVal m 0 c)) -∗ Q ⟨Scalar.addi (word c) 2#32, 4#32, 0#32⟩)
        -∗ wpc c (k0_part12 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8 c (word c) (total m 0 c)) Q) := by
  rw [k0_part12_eq_skeleton]
  unfold k0_part12_skel
  iintro ⟨#HR, #Hlev, HO, Hy03, Hb0, Hg00, Hk00⟩ Hk
  extract_lets -underBinder aj0 bj0 ej0 j0
  iapply (wp_out_own m c (0, 3) (own_cond 3 c) rfl rfl (Kn := j0 ⟨⟩)) $$ Hy03
  iintro Hy03
  simp only [j0, Prog.lift, Prog.bind_op, Prog.bind_ret, Prog.pure_eq_ret]
  iapply (wp_load_any c (M := bM) (r := rB 0)) $$ Hb0
  iintro %X Hb0
  iapply (wp_store_piece c (M := bM) (r := rB 0)) $$ Hb0
  iintro Hb0
  ihave Hb0 := (Entails.of_eq (show piece c bM (rB 0) fullShare (k0_pay41 (total m 0 c)) = piece c bM (rB 0) fullShare (bVal m 0 c) from rfl)) $$ Hb0
  ihave Hb0 := (piece_thirds c bM (rB 0) (bVal m 0 c)).1 $$ Hb0
  icases Hb0 with ⟨Hb00, Hb01, Hb02⟩
  ihave Ha00 := (agIn_intro m c 0 0) $$ [Hb00 Hg00 Hk00]
  · isplitl [Hb00]; · iexact Hb00
    isplitl [Hg00] <;> iassumption
  ihave Ha00 := (agIn_elim m c 0 0) $$ Ha00
  iapply (wp_ag_send m K c 0 0 _ (dev12_eq c _) (oAg1 c + owAg c 0 2 + owAg c 0 1) rfl rfl rfl) $$ [HO Ha00]
  · isplitr; · iexact HR
    isplitl [HO]; · iexact HO
    iexact Ha00
  iintro ⟨HO, Ha00⟩
  iapply wpc_ret
  iapply Hk
  isplitl [HO]; · iexact HO
  isplitl [Hy03]; · iexact Hy03
  isplitl [Ha00]; · iexact Ha00
  isplitl [Hb01]; · iexact Hb01
  iexact Hb02

set_option maxHeartbeats 2000000 in
/-- Half 0 sent to the second peer. -/
theorem part13 (c : Dev nD) (v261 v0 v1 : BitVec 32) {Q : BitVec 32 → sProp 𝕄} :
    iprop(records m K ∗ levAts L lv ∗ ow c (oAg1 c + owAg c 0 2 + owAg c 0 1) ∗ agIn m c 0 1)
      ⊢ iprop(((ow c (oAg1 c + owAg c 0 2) ∗ rcv c (2, 0, 1)) -∗ ∀ v, Q v)
        -∗ wpc c (k0_part13 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8 c (word c) v261 v0 v1) Q) := by
  rw [k0_part13_eq_skeleton]
  unfold k0_part13_skel
  iintro ⟨#HR, #Hlev, HO, Ha01⟩ Hk
  simp only [Prog.lift, Prog.bind_op, Prog.bind_ret, Prog.pure_eq_ret]
  ihave Ha01 := (agIn_elim m c 0 1) $$ Ha01
  iapply (wp_ag_send m K c 0 1 _ (dev13_eq c _) (oAg1 c + owAg c 0 2) rfl rfl rfl) $$ [HO Ha01]
  · isplitr; · iexact HR
    isplitl [HO]; · iexact HO
    iexact Ha01
  iintro ⟨HO, Ha01⟩
  iapply wpc_ret
  ihave Hk := Hk $$ [HO Ha01]
  · isplitl [HO]; · iexact HO
    iexact Ha01
  iapply Hk

set_option maxHeartbeats 2000000 in
/-- Half 0 sent to the third peer; the first landing of half 1. -/
theorem part14 (c : Dev nD) (v292 : BitVec 32) {Q : PUnit → sProp 𝕄} :
    iprop(records m K ∗ levAts L lv ∗ ow c (oAg1 c + owAg c 0 2) ∗ agIn m c 0 2 ∗ rcv c (1, 1, 0))
      ⊢ iprop(((ow c (oAg1 c) ∗ rcv c (2, 0, 2) ∗ fin c (1, 1, 0) ∗ dmaPay m (1, 1, 0) c) -∗ Q ⟨⟩)
        -∗ wpc c (k0_part14 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8 c (word c) v292) Q) := by
  rw [k0_part14_eq_skeleton]
  unfold k0_part14_skel
  iintro ⟨#HR, #Hlev, HO, Ha02, Hr110⟩ Hk
  simp only [Prog.lift, Prog.bind_op, Prog.bind_ret, Prog.pure_eq_ret]
  ihave Ha02 := (agIn_elim m c 0 2) $$ Ha02
  iapply (wp_ag_send m K c 0 2 _ (dev14_eq c _) (oAg1 c) rfl rfl rfl) $$ [HO Ha02]
  · isplitr; · iexact HR
    isplitl [HO]; · iexact HO
    iexact Ha02
  iintro ⟨HO, Ha02⟩
  iapply (wp_dma_wait m K c (1, 1, 0) _ (sem_eq 1 1 0 _) (oAg1 c) (by rw [lvS_dma]; exact above_oAg1 c) rfl) $$ [HO Hr110]
  · isplitr; · iexact HR
    isplitr; · iexact Hlev
    isplitl [HO]; · iexact HO
    iexact Hr110
  iintro ⟨HO, Hf110, Hp110⟩
  iapply wpc_ret
  iapply Hk
  isplitl [HO]; · iexact HO
  isplitl [Ha02]; · iexact Ha02
  isplitl [Hf110]; · iexact Hf110
  iexact Hp110

set_option maxHeartbeats 2000000 in
/-- The other landings of half 1, and the sum of half 1. -/
theorem part15 (c : Dev nD) {Q : (Σ' (v339 : FVec F S256x128 .f32) (v341 : BitVec 32), BitVec 32) → sProp 𝕄} :
    iprop(records m K ∗ levAts L lv ∗ ow c (oAg1 c) ∗ ownI m c ∗ rcv c (1, 1, 1) ∗ rcv c (1, 1, 2) ∗ dmaPay m (1, 1, 0) c)
      ⊢ iprop(((ow c (oAg1 c) ∗ ownI m c ∗ fin c (1, 1, 1) ∗ fin c (1, 1, 2) ∗ piece c rM (rR (1, 0)) fullShare (rsVal m (1, 0) c) ∗ piece c rM (rR (1, 1)) fullShare (rsVal m (1, 1) c) ∗ piece c rM (rR (1, 2)) fullShare (rsVal m (1, 2) c)) -∗ Q ⟨total m 1 c, Scalar.extui (Scalar.cmpi .eq (word c) 0#32), 0#32⟩)
        -∗ wpc c (k0_part15 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8 (word c)) Q) := by
  rw [k0_part15_eq_skeleton]
  unfold k0_part15_skel
  iintro ⟨#HR, #Hlev, HO, Hown, Hr111, Hr112, Hp110⟩ Hk
  simp only [Prog.lift, Prog.bind_op, Prog.bind_ret, Prog.pure_eq_ret]
  iapply (wp_dma_wait m K c (1, 1, 1) _ (sem_eq 1 1 1 _) (oAg1 c) (by rw [lvS_dma]; exact above_oAg1 c) rfl) $$ [HO Hr111]
  · isplitr; · iexact HR
    isplitr; · iexact Hlev
    isplitl [HO]; · iexact HO
    iexact Hr111
  iintro ⟨HO, Hf111, Hp111⟩
  iapply (wp_dma_wait m K c (1, 1, 2) _ (sem_eq 1 1 2 _) (oAg1 c) (by rw [lvS_dma]; exact above_oAg1 c) rfl) $$ [HO Hr112]
  · isplitr; · iexact HR
    isplitr; · iexact Hlev
    isplitl [HO]; · iexact HO
    iexact Hr112
  iintro ⟨HO, Hf112, Hp112⟩
  iapply (wp_load_own m c 1 rfl) $$ Hown
  iintro Hown
  ihave Hp110 := (Entails.of_eq (show dmaPay m (1, 1, 0) c = piece c rM (rR (1, 0)) fullShare (rsVal m (1, 0) c) from rfl)) $$ Hp110
  iapply (wp_load_piece c (M := rM) (r := rR (1, 0))) $$ Hp110
  iintro Hp110
  ihave Hp111 := (Entails.of_eq (show dmaPay m (1, 1, 1) c = piece c rM (rR (1, 1)) fullShare (rsVal m (1, 1) c) from rfl)) $$ Hp111
  iapply (wp_load_piece c (M := rM) (r := rR (1, 1))) $$ Hp111
  iintro Hp111
  ihave Hp112 := (Entails.of_eq (show dmaPay m (1, 1, 2) c = piece c rM (rR (1, 2)) fullShare (rsVal m (1, 2) c) from rfl)) $$ Hp112
  iapply (wp_load_piece c (M := rM) (r := rR (1, 2))) $$ Hp112
  iintro Hp112
  rw [show k0_pay42 (ownHalf m 1 c) (rsVal m (1, 0) c) (rsVal m (1, 1) c) (rsVal m (1, 2) c) = total m 1 c from rfl]
  iapply wpc_ret
  iapply Hk
  isplitl [HO]; · iexact HO
  isplitl [Hown]; · iexact Hown
  isplitl [Hf111]; · iexact Hf111
  isplitl [Hf112]; · iexact Hf112
  isplitl [Hp110]; · iexact Hp110
  isplitl [Hp111]; · iexact Hp111
  iexact Hp112

set_option maxHeartbeats 2000000 in
/-- The sum of half 1 stored, then rounded. -/
theorem part16 (c : Dev nD) {Q : PUnit → sProp 𝕄} :
    iprop(records m K ∗ levAts L lv ∗ anyPiece c yM (rY (1, 0)) ∗ anyPiece c yM (rY (1, 1)) ∗ anyPiece c yM (rY (1, 2)) ∗ anyPiece c yM (rY (1, 3)) ∗ anyPiece c bM (rB 1))
      ⊢ iprop(((yMid m c (1, 0) ∗ yMid m c (1, 1) ∗ yMid m c (1, 2) ∗ yMid m c (1, 3) ∗ piece c bM (rB 1) (sh 0) (bVal m 1 c) ∗ piece c bM (rB 1) (sh 1) (bVal m 1 c) ∗ piece c bM (rB 1) (sh 2) (bVal m 1 c)) -∗ Q ⟨⟩)
        -∗ wpc c (k0_part16 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8 (word c) (total m 1 c) (Scalar.extui (Scalar.cmpi .eq (word c) 0#32)) 0#32) Q) := by
  rw [k0_part16_eq_skeleton]
  unfold k0_part16_skel
  iintro ⟨#HR, #Hlev, Hy10, Hy11, Hy12, Hy13, Hb1⟩ Hk
  simp -zeta only [semSignalWord, semWaitWord, Prog.lift, Prog.bind_op, Prog.bind_ret, Prog.pure_eq_ret]
  extract_lets -underBinder e0 j0
  iapply (wp_out_own m c (1, 0) (own_cond 0 c) rfl rfl (Kn := j0 ⟨⟩)) $$ Hy10
  iintro Hy10
  simp -zeta only [j0]
  extract_lets -underBinder aj1 bj1 ej1 j1
  iapply (wp_out_own m c (1, 1) (own_cond 1 c) rfl rfl (Kn := j1 ⟨⟩)) $$ Hy11
  iintro Hy11
  simp -zeta only [j1]
  extract_lets -underBinder aj2 bj2 ej2 j2
  iapply (wp_out_own m c (1, 2) (own_cond 2 c) rfl rfl (Kn := j2 ⟨⟩)) $$ Hy12
  iintro Hy12
  simp -zeta only [j2]
  extract_lets -underBinder aj3 bj3 ej3 j3
  iapply (wp_out_own m c (1, 3) (own_cond 3 c) rfl rfl (Kn := j3 ⟨⟩)) $$ Hy13
  iintro Hy13
  simp only [j3, Prog.lift, Prog.bind_op, Prog.bind_ret, Prog.pure_eq_ret]
  iapply (wp_load_any c (M := bM) (r := rB 1)) $$ Hb1
  iintro %X Hb1
  iapply (wp_store_piece c (M := bM) (r := rB 1)) $$ Hb1
  iintro Hb1
  ihave Hb1 := (Entails.of_eq (show piece c bM (rB 1) fullShare (k0_pay47 (total m 1 c)) = piece c bM (rB 1) fullShare (bVal m 1 c) from rfl)) $$ Hb1
  ihave Hb1 := (piece_thirds c bM (rB 1) (bVal m 1 c)).1 $$ Hb1
  icases Hb1 with ⟨Hb10, Hb11, Hb12⟩
  iapply wpc_ret
  iapply Hk
  isplitl [Hy10]; · iexact Hy10
  isplitl [Hy11]; · iexact Hy11
  isplitl [Hy12]; · iexact Hy12
  isplitl [Hy13]; · iexact Hy13
  isplitl [Hb10]; · iexact Hb10
  isplitl [Hb11]; · iexact Hb11
  iexact Hb12

set_option maxHeartbeats 2000000 in
/-- Half 1 sent to the first two peers. -/
theorem part17 (c : Dev nD) {Q : (Σ' (v400 : BitVec 32), BitVec 32) → sProp 𝕄} :
    iprop(records m K ∗ levAts L lv ∗ ow c (oAg1 c) ∗ agIn m c 1 0 ∗ agIn m c 1 1)
      ⊢ iprop(((ow c (0 + owAg c 1 2) ∗ rcv c (2, 1, 0) ∗ rcv c (2, 1, 1)) -∗ ∀ v, Q v)
        -∗ wpc c (k0_part17 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8 c (word c)) Q) := by
  rw [k0_part17_eq_skeleton]
  unfold k0_part17_skel
  iintro ⟨#HR, #Hlev, HO, Ha10, Ha11⟩ Hk
  simp only [Prog.lift, Prog.bind_op, Prog.bind_ret, Prog.pure_eq_ret]
  ihave Ha10 := (agIn_elim m c 1 0) $$ Ha10
  iapply (wp_ag_send m K c 1 0 _ (dev15_eq c _) (0 + owAg c 1 2 + owAg c 1 1) rfl rfl rfl) $$ [HO Ha10]
  · isplitr; · iexact HR
    isplitl [HO]; · iexact HO
    iexact Ha10
  iintro ⟨HO, Ha10⟩
  ihave Ha11 := (agIn_elim m c 1 1) $$ Ha11
  iapply (wp_ag_send m K c 1 1 _ (dev16_eq c _) (0 + owAg c 1 2) rfl rfl rfl) $$ [HO Ha11]
  · isplitr; · iexact HR
    isplitl [HO]; · iexact HO
    iexact Ha11
  iintro ⟨HO, Ha11⟩
  iapply wpc_ret
  ihave Hk := Hk $$ [HO Ha10 Ha11]
  · isplitl [HO]; · iexact HO
    isplitl [Ha10]; · iexact Ha10
    iexact Ha11
  iapply Hk

set_option maxHeartbeats 2000000 in
/-- Half 1 sent to the third peer; the first landing of the second exchange. -/
theorem part18 (c : Dev nD) (v400 v401 : BitVec 32) {Q : PUnit → sProp 𝕄} :
    iprop(records m K ∗ levAts L lv ∗ ow c (0 + owAg c 1 2) ∗ agIn m c 1 2 ∗ rcv c (3, 0, 0))
      ⊢ iprop(((ow c 0 ∗ rcv c (2, 1, 2) ∗ fin c (3, 0, 0) ∗ dmaPay m (3, 0, 0) c) -∗ Q ⟨⟩)
        -∗ wpc c (k0_part18 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8 c (word c) v400 v401) Q) := by
  rw [k0_part18_eq_skeleton]
  unfold k0_part18_skel
  iintro ⟨#HR, #Hlev, HO, Ha12, Hr300⟩ Hk
  simp only [Prog.lift, Prog.bind_op, Prog.bind_ret, Prog.pure_eq_ret]
  ihave Ha12 := (agIn_elim m c 1 2) $$ Ha12
  iapply (wp_ag_send m K c 1 2 _ (dev17_eq c _) 0 rfl rfl rfl) $$ [HO Ha12]
  · isplitr; · iexact HR
    isplitl [HO]; · iexact HO
    iexact Ha12
  iintro ⟨HO, Ha12⟩
  iapply (wp_dma_wait m K c (3, 0, 0) _ (sem_eq 3 0 0 _) 0 (Above.zero _) rfl) $$ [HO Hr300]
  · isplitr; · iexact HR
    isplitr; · iexact Hlev
    isplitl [HO]; · iexact HO
    iexact Hr300
  iintro ⟨HO, Hf300, Hp300⟩
  iapply wpc_ret
  iapply Hk
  isplitl [HO]; · iexact HO
  isplitl [Ha12]; · iexact Ha12
  isplitl [Hf300]; · iexact Hf300
  iexact Hp300

end Parts

end Cert.KernelIdeal.Hand

end
-- ==== Proof.Parts3.lean ====
/-
# The parts of the body, from the second exchange on
-/
module

public import proofs.«01_k».proof.Proof.Parts2

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (m : (ℓ : Loc nD τ sig) → Buf (Elt F) ℓ) (K : Dev nD × CK → ℕ)

set_option maxHeartbeats 2000000 in
/-- The other landings of half 0, stored into blocks 0 and 1. -/
theorem part19 (c : Dev nD) {Q : PUnit → sProp 𝕄} :
    iprop(records m K ∗ levAts L lv ∗ ow c 0 ∗ rcv c (3, 0, 1) ∗ rcv c (3, 0, 2) ∗ dmaPay m (3, 0, 0) c ∗ yMid m c (0, 0) ∗ yMid m c (0, 1))
      ⊢ iprop(((ow c 0 ∗ fin c (3, 0, 1) ∗ fin c (3, 0, 2) ∗ landedAll m c 0 ∗ piece c yM (rY (0, 0)) fullShare (yVal m (0, 0) c) ∗ piece c yM (rY (0, 1)) fullShare (yVal m (0, 1) c)) -∗ Q ⟨⟩)
        -∗ wpc c (k0_part19 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8 c (word c)) Q) := by
  rw [k0_part19_eq_skeleton]
  unfold k0_part19_skel
  iintro ⟨#HR, #Hlev, HO, Hr301, Hr302, Hp300, Hy00, Hy01⟩ Hk
  simp -zeta only [semSignalWord, semWaitWord, Prog.lift, Prog.bind_op, Prog.bind_ret, Prog.pure_eq_ret]
  iapply (wp_dma_wait m K c (3, 0, 1) _ (sem_eq 3 0 1 _) 0 (Above.zero _) rfl) $$ [HO Hr301]
  · isplitr; · iexact HR
    isplitr; · iexact Hlev
    isplitl [HO]; · iexact HO
    iexact Hr301
  iintro ⟨HO, Hf301, Hp301⟩
  iapply (wp_dma_wait m K c (3, 0, 2) _ (sem_eq 3 0 2 _) 0 (Above.zero _) rfl) $$ [HO Hr302]
  · isplitr; · iexact HR
    isplitr; · iexact Hlev
    isplitl [HO]; · iexact HO
    iexact Hr302
  iintro ⟨HO, Hf302, Hp302⟩
  ihave Hg0 := (landedAll_intro m c 0) $$ [Hp300 Hp301 Hp302]
  · isplitl [Hp300]; · iexact Hp300
    isplitl [Hp301] <;> iassumption
  extract_lets -underBinder j0
  iapply (wp_out_ag m c (0, 0) (cond17 c) rfl (off17 c) rfl (Kn := j0 ⟨⟩)) $$ [Hg0 Hy00]
  · isplitl [Hg0] <;> iassumption
  iintro ⟨Hg0, Hy00⟩
  simp -zeta only [j0]
  extract_lets -underBinder j1
  iapply (wp_out_ag m c (0, 1) (cond18 c) rfl (off18 c) rfl (Kn := j1 ⟨⟩)) $$ [Hg0 Hy01]
  · isplitl [Hg0] <;> iassumption
  iintro ⟨Hg0, Hy01⟩
  simp -zeta only [j1]
  iapply wpc_ret
  iapply Hk
  isplitl [HO]; · iexact HO
  isplitl [Hf301]; · iexact Hf301
  isplitl [Hf302]; · iexact Hf302
  isplitl [Hg0]; · iexact Hg0
  isplitl [Hy00]; · iexact Hy00
  iexact Hy01

set_option maxHeartbeats 2000000 in
/-- Half 0 stored into blocks 2 and 3; two landings of half 1. -/
theorem part20 (c : Dev nD) {Q : PUnit → sProp 𝕄} :
    iprop(records m K ∗ levAts L lv ∗ ow c 0 ∗ landedAll m c 0 ∗ yMid m c (0, 2) ∗ yMid m c (0, 3) ∗ rcv c (3, 1, 0) ∗ rcv c (3, 1, 1))
      ⊢ iprop(((ow c 0 ∗ landedAll m c 0 ∗ piece c yM (rY (0, 2)) fullShare (yVal m (0, 2) c) ∗ piece c yM (rY (0, 3)) fullShare (yVal m (0, 3) c) ∗ fin c (3, 1, 0) ∗ dmaPay m (3, 1, 0) c ∗ fin c (3, 1, 1) ∗ dmaPay m (3, 1, 1) c) -∗ Q ⟨⟩)
        -∗ wpc c (k0_part20 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8 c (word c)) Q) := by
  rw [k0_part20_eq_skeleton]
  unfold k0_part20_skel
  iintro ⟨#HR, #Hlev, HO, Hg0, Hy02, Hy03, Hr310, Hr311⟩ Hk
  simp -zeta only [semSignalWord, semWaitWord, Prog.lift, Prog.bind_op, Prog.bind_ret, Prog.pure_eq_ret]
  extract_lets -underBinder j0
  iapply (wp_out_ag m c (0, 2) (cond19 c) rfl (off19 c) rfl (Kn := j0 ⟨⟩)) $$ [Hg0 Hy02]
  · isplitl [Hg0] <;> iassumption
  iintro ⟨Hg0, Hy02⟩
  simp -zeta only [j0]
  extract_lets -underBinder j1
  iapply (wp_out_ag m c (0, 3) (cond20 c) rfl (off20 c) rfl (Kn := j1 ⟨⟩)) $$ [Hg0 Hy03]
  · isplitl [Hg0] <;> iassumption
  iintro ⟨Hg0, Hy03⟩
  simp only [j1]
  iapply (wp_dma_wait m K c (3, 1, 0) _ (sem_eq 3 1 0 _) 0 (Above.zero _) rfl) $$ [HO Hr310]
  · isplitr; · iexact HR
    isplitr; · iexact Hlev
    isplitl [HO]; · iexact HO
    iexact Hr310
  iintro ⟨HO, Hf310, Hp310⟩
  iapply (wp_dma_wait m K c (3, 1, 1) _ (sem_eq 3 1 1 _) 0 (Above.zero _) rfl) $$ [HO Hr311]
  · isplitr; · iexact HR
    isplitr; · iexact Hlev
    isplitl [HO]; · iexact HO
    iexact Hr311
  iintro ⟨HO, Hf311, Hp311⟩
  iapply wpc_ret
  iapply Hk
  isplitl [HO]; · iexact HO
  isplitl [Hg0]; · iexact Hg0
  isplitl [Hy02]; · iexact Hy02
  isplitl [Hy03]; · iexact Hy03
  isplitl [Hf310]; · iexact Hf310
  isplitl [Hp310]; · iexact Hp310
  isplitl [Hf311]; · iexact Hf311
  iexact Hp311

set_option maxHeartbeats 2000000 in
/-- The last landing of half 1, half 1 stored; the first wait for a departure. -/
theorem part21 (c : Dev nD) {Q : PUnit → sProp 𝕄} :
    iprop(records m K ∗ levAts L lv ∗ ow c 0 ∗ rcv c (3, 1, 2) ∗ dmaPay m (3, 1, 0) c ∗ dmaPay m (3, 1, 1) c ∗ yMid m c (1, 0) ∗ yMid m c (1, 1) ∗ yMid m c (1, 2) ∗ yMid m c (1, 3) ∗ rcv c (0, 0, 0))
      ⊢ iprop(((ow c 0 ∗ fin c (3, 1, 2) ∗ landedAll m c 1 ∗ piece c yM (rY (1, 0)) fullShare (yVal m (1, 0) c) ∗ piece c yM (rY (1, 1)) fullShare (yVal m (1, 1) c) ∗ piece c yM (rY (1, 2)) fullShare (yVal m (1, 2) c) ∗ piece c yM (rY (1, 3)) fullShare (yVal m (1, 3) c) ∗ fin c (0, 0, 0) ∗ dmaPay m (0, 0, 0) c) -∗ Q ⟨⟩)
        -∗ wpc c (k0_part21 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8 c (word c)) Q) := by
  rw [k0_part21_eq_skeleton]
  unfold k0_part21_skel
  iintro ⟨#HR, #Hlev, HO, Hr312, Hp310, Hp311, Hy10, Hy11, Hy12, Hy13, Hr000⟩ Hk
  simp -zeta only [semSignalWord, semWaitWord, Prog.lift, Prog.bind_op, Prog.bind_ret, Prog.pure_eq_ret]
  iapply (wp_dma_wait m K c (3, 1, 2) _ (sem_eq 3 1 2 _) 0 (Above.zero _) rfl) $$ [HO Hr312]
  · isplitr; · iexact HR
    isplitr; · iexact Hlev
    isplitl [HO]; · iexact HO
    iexact Hr312
  iintro ⟨HO, Hf312, Hp312⟩
  ihave Hg1 := (landedAll_intro m c 1) $$ [Hp310 Hp311 Hp312]
  · isplitl [Hp310]; · iexact Hp310
    isplitl [Hp311] <;> iassumption
  extract_lets -underBinder j0
  iapply (wp_out_ag m c (1, 0) (cond21 c) rfl (off21 c) rfl (Kn := j0 ⟨⟩)) $$ [Hg1 Hy10]
  · isplitl [Hg1] <;> iassumption
  iintro ⟨Hg1, Hy10⟩
  simp -zeta only [j0]
  extract_lets -underBinder j1
  iapply (wp_out_ag m c (1, 1) (cond22 c) rfl (off22 c) rfl (Kn := j1 ⟨⟩)) $$ [Hg1 Hy11]
  · isplitl [Hg1] <;> iassumption
  iintro ⟨Hg1, Hy11⟩
  simp -zeta only [j1]
  extract_lets -underBinder j2
  iapply (wp_out_ag m c (1, 2) (cond23 c) rfl (off23 c) rfl (Kn := j2 ⟨⟩)) $$ [Hg1 Hy12]
  · isplitl [Hg1] <;> iassumption
  iintro ⟨Hg1, Hy12⟩
  simp -zeta only [j2]
  extract_lets -underBinder j3
  iapply (wp_out_ag m c (1, 3) (cond24 c) rfl (off24 c) rfl (Kn := j3 ⟨⟩)) $$ [Hg1 Hy13]
  · isplitl [Hg1] <;> iassumption
  iintro ⟨Hg1, Hy13⟩
  simp only [j3]
  iapply (wp_dma_wait m K c (0, 0, 0) _ (sem_eq 0 0 0 _) 0 (Above.zero _) rfl) $$ [HO Hr000]
  · isplitr; · iexact HR
    isplitr; · iexact Hlev
    isplitl [HO]; · iexact HO
    iexact Hr000
  iintro ⟨HO, Hf000, Hp000⟩
  iapply wpc_ret
  iapply Hk
  isplitl [HO]; · iexact HO
  isplitl [Hf312]; · iexact Hf312
  isplitl [Hg1]; · iexact Hg1
  isplitl [Hy10]; · iexact Hy10
  isplitl [Hy11]; · iexact Hy11
  isplitl [Hy12]; · iexact Hy12
  isplitl [Hy13]; · iexact Hy13
  isplitl [Hf000]; · iexact Hf000
  iexact Hp000

set_option maxHeartbeats 2000000 in
/-- Three waits for departures. -/
theorem part22 (c : Dev nD) {Q : PUnit → sProp 𝕄} :
    iprop(records m K ∗ levAts L lv ∗ ow c 0 ∗ rcv c (0, 0, 1) ∗ rcv c (0, 0, 2) ∗ rcv c (0, 1, 0))
      ⊢ iprop(((ow c 0 ∗ fin c (0, 0, 1) ∗ dmaPay m (0, 0, 1) c ∗ fin c (0, 0, 2) ∗ dmaPay m (0, 0, 2) c ∗ fin c (0, 1, 0) ∗ dmaPay m (0, 1, 0) c) -∗ Q ⟨⟩)
        -∗ wpc c (k0_part22 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8) Q) := by
  rw [k0_part22_eq_skeleton]
  unfold k0_part22_skel
  iintro ⟨#HR, #Hlev, HO, Hr001, Hr002, Hr010⟩ Hk
  simp only [Prog.lift, Prog.bind_op, Prog.bind_ret, Prog.pure_eq_ret]
  iapply (wp_dma_wait m K c (0, 0, 1) _ (sem_eq 0 0 1 _) 0 (Above.zero _) rfl) $$ [HO Hr001]
  · isplitr; · iexact HR
    isplitr; · iexact Hlev
    isplitl [HO]; · iexact HO
    iexact Hr001
  iintro ⟨HO, Hf001, Hp001⟩
  iapply (wp_dma_wait m K c (0, 0, 2) _ (sem_eq 0 0 2 _) 0 (Above.zero _) rfl) $$ [HO Hr002]
  · isplitr; · iexact HR
    isplitr; · iexact Hlev
    isplitl [HO]; · iexact HO
    iexact Hr002
  iintro ⟨HO, Hf002, Hp002⟩
  iapply (wp_dma_wait m K c (0, 1, 0) _ (sem_eq 0 1 0 _) 0 (Above.zero _) rfl) $$ [HO Hr010]
  · isplitr; · iexact HR
    isplitr; · iexact Hlev
    isplitl [HO]; · iexact HO
    iexact Hr010
  iintro ⟨HO, Hf010, Hp010⟩
  iapply wpc_ret
  iapply Hk
  isplitl [HO]; · iexact HO
  isplitl [Hf001]; · iexact Hf001
  isplitl [Hp001]; · iexact Hp001
  isplitl [Hf002]; · iexact Hf002
  isplitl [Hp002]; · iexact Hp002
  isplitl [Hf010]; · iexact Hf010
  iexact Hp010

set_option maxHeartbeats 2000000 in
/-- Three more. -/
theorem part23 (c : Dev nD) {Q : PUnit → sProp 𝕄} :
    iprop(records m K ∗ levAts L lv ∗ ow c 0 ∗ rcv c (0, 1, 1) ∗ rcv c (0, 1, 2) ∗ rcv c (2, 0, 0))
      ⊢ iprop(((ow c 0 ∗ fin c (0, 1, 1) ∗ dmaPay m (0, 1, 1) c ∗ fin c (0, 1, 2) ∗ dmaPay m (0, 1, 2) c ∗ fin c (2, 0, 0) ∗ dmaPay m (2, 0, 0) c) -∗ Q ⟨⟩)
        -∗ wpc c (k0_part23 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8) Q) := by
  rw [k0_part23_eq_skeleton]
  unfold k0_part23_skel
  iintro ⟨#HR, #Hlev, HO, Hr011, Hr012, Hr200⟩ Hk
  simp only [Prog.lift, Prog.bind_op, Prog.bind_ret, Prog.pure_eq_ret]
  iapply (wp_dma_wait m K c (0, 1, 1) _ (sem_eq 0 1 1 _) 0 (Above.zero _) rfl) $$ [HO Hr011]
  · isplitr; · iexact HR
    isplitr; · iexact Hlev
    isplitl [HO]; · iexact HO
    iexact Hr011
  iintro ⟨HO, Hf011, Hp011⟩
  iapply (wp_dma_wait m K c (0, 1, 2) _ (sem_eq 0 1 2 _) 0 (Above.zero _) rfl) $$ [HO Hr012]
  · isplitr; · iexact HR
    isplitr; · iexact Hlev
    isplitl [HO]; · iexact HO
    iexact Hr012
  iintro ⟨HO, Hf012, Hp012⟩
  iapply (wp_dma_wait m K c (2, 0, 0) _ (sem_eq 2 0 0 _) 0 (Above.zero _) rfl) $$ [HO Hr200]
  · isplitr; · iexact HR
    isplitr; · iexact Hlev
    isplitl [HO]; · iexact HO
    iexact Hr200
  iintro ⟨HO, Hf200, Hp200⟩
  iapply wpc_ret
  iapply Hk
  isplitl [HO]; · iexact HO
  isplitl [Hf011]; · iexact Hf011
  isplitl [Hp011]; · iexact Hp011
  isplitl [Hf012]; · iexact Hf012
  isplitl [Hp012]; · iexact Hp012
  isplitl [Hf200]; · iexact Hf200
  iexact Hp200

set_option maxHeartbeats 2000000 in
/-- Three more. -/
theorem part24 (c : Dev nD) {Q : PUnit → sProp 𝕄} :
    iprop(records m K ∗ levAts L lv ∗ ow c 0 ∗ rcv c (2, 0, 1) ∗ rcv c (2, 0, 2) ∗ rcv c (2, 1, 0))
      ⊢ iprop(((ow c 0 ∗ fin c (2, 0, 1) ∗ dmaPay m (2, 0, 1) c ∗ fin c (2, 0, 2) ∗ dmaPay m (2, 0, 2) c ∗ fin c (2, 1, 0) ∗ dmaPay m (2, 1, 0) c) -∗ Q ⟨⟩)
        -∗ wpc c (k0_part24 (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8) Q) := by
  rw [k0_part24_eq_skeleton]
  unfold k0_part24_skel
  iintro ⟨#HR, #Hlev, HO, Hr201, Hr202, Hr210⟩ Hk
  simp only [Prog.lift, Prog.bind_op, Prog.bind_ret, Prog.pure_eq_ret]
  iapply (wp_dma_wait m K c (2, 0, 1) _ (sem_eq 2 0 1 _) 0 (Above.zero _) rfl) $$ [HO Hr201]
  · isplitr; · iexact HR
    isplitr; · iexact Hlev
    isplitl [HO]; · iexact HO
    iexact Hr201
  iintro ⟨HO, Hf201, Hp201⟩
  iapply (wp_dma_wait m K c (2, 0, 2) _ (sem_eq 2 0 2 _) 0 (Above.zero _) rfl) $$ [HO Hr202]
  · isplitr; · iexact HR
    isplitr; · iexact Hlev
    isplitl [HO]; · iexact HO
    iexact Hr202
  iintro ⟨HO, Hf202, Hp202⟩
  iapply (wp_dma_wait m K c (2, 1, 0) _ (sem_eq 2 1 0 _) 0 (Above.zero _) rfl) $$ [HO Hr210]
  · isplitr; · iexact HR
    isplitr; · iexact Hlev
    isplitl [HO]; · iexact HO
    iexact Hr210
  iintro ⟨HO, Hf210, Hp210⟩
  iapply wpc_ret
  iapply Hk
  isplitl [HO]; · iexact HO
  isplitl [Hf201]; · iexact Hf201
  isplitl [Hp201]; · iexact Hp201
  isplitl [Hf202]; · iexact Hf202
  isplitl [Hp202]; · iexact Hp202
  isplitl [Hf210]; · iexact Hf210
  iexact Hp210

end Parts

end Cert.KernelIdeal.Hand

end
-- ==== Proof.Buffers.lean ====
/-
# Whole buffers and their pieces

A buffer held whole is its pieces, each at some contents, and back; the result's pieces at their contents are the result.
A family over the slots of a device is the family over the other devices.
-/
module

public import proofs.«01_k».proof.Proof.Steps
public import Idealize.ShloMosaic.Lib.Memref
public import Idealize.ShloMosaic.Lib.Ring

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Buffers
variable (m : (ℓ : Loc nD τ sig) → Buf (Elt F) ℓ)

/-! ## Finite families spelled out -/

theorem bigSep_three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl
theorem bigSep_two_three (Φ : Fin 2 × Fin 3 → sProp 𝕄) :
    bigSep Finset.univ Φ = iprop(Φ (0, 0) ∗ Φ (0, 1) ∗ Φ (0, 2) ∗ Φ (1, 0) ∗ Φ (1, 1) ∗ Φ (1, 2)) := by
  rw [bigSep_univ_eq_bigSepL [(0, 0), (0, 1), (0, 2), (1, 0), (1, 1), (1, 2)] (by decide) (by decide), bigSepL_cons_cons, bigSepL_cons_cons, bigSepL_cons_cons,
    bigSepL_cons_cons, bigSepL_cons_cons, bigSepL_singleton]
  rfl
theorem bigSep_two_four (Φ : Fin 2 × Fin 4 → sProp 𝕄) :
    bigSep Finset.univ Φ = iprop(Φ (0, 0) ∗ Φ (0, 1) ∗ Φ (0, 2) ∗ Φ (0, 3) ∗ Φ (1, 0) ∗ Φ (1, 1) ∗ Φ (1, 2) ∗ Φ (1, 3)) := by
  rw [bigSep_univ_eq_bigSepL [(0, 0), (0, 1), (0, 2), (0, 3), (1, 0), (1, 1), (1, 2), (1, 3)] (by decide) (by decide), bigSepL_cons_cons, bigSepL_cons_cons, bigSepL_cons_cons,
    bigSepL_cons_cons, bigSepL_cons_cons, bigSepL_cons_cons, bigSepL_cons_cons, bigSepL_singleton]
  rfl

/-! ## The devices: one and the three others -/

set_option backward.proofsInPublic true in
def others (c : Dev nD) : Fin 3 ↪ Dev nD := ⟨fun j => pr c j, fun i j h => by rw [← slot_pr c i, ← slot_pr c j]; exact congrArg (slot c) h⟩

theorem erase_eq (c : Dev nD) : (Finset.univ : Finset (Dev nD)).erase c = Finset.univ.map (others c) := by
  ext t
  rw [Finset.mem_erase, Finset.mem_map]
  refine ⟨fun h => ⟨slot c t, Finset.mem_univ _, pr_slot c t (Ne.symm h.1)⟩, ?_⟩
  rintro ⟨j, -, rfl⟩
  exact ⟨(ne_pr c j).symm, Finset.mem_univ _⟩

/-- A family over the devices is its member at `c` and those at the others, by slot. -/
theorem turn (c : Dev nD) (Φ : Dev nD → sProp 𝕄) : bigSep Finset.univ Φ = iprop(Φ c ∗ bigSep Finset.univ fun j => Φ (pr c j)) := by
  rw [bigSep_univ_at Φ c, erase_eq, bigSep_map]; rfl

/-- A family over the slots is one over the devices that has nothing at `c`. -/
theorem spread (c : Dev nD) (Φ : Fin 3 → sProp 𝕄) (Ψ : Dev nD → sProp 𝕄) (h₀ : Ψ c = iprop(emp)) (h : ∀ j, Ψ (pr c j) = Φ j) :
    bigSep Finset.univ Ψ = bigSep Finset.univ Φ := by
  rw [turn c Ψ, h₀, bigSep_congr fun j _ => h j]
  exact equiv_iff.mp emp_sep

/-! ## Splitting and joining -/

instance nonempty_elt (e : EltTy) : Nonempty (Elt F e) := by
  cases e <;> first | exact ⟨(0 : BitVec _)⟩ | exact ⟨FloatOps.ofBits _ 0⟩

theorem owns_any (c : Dev nD) {sp : Space} {s : Shape} {e : EltTy} (M : Memref sig .tc sp s e) (r : Rect s) (hr : ∀ a, r.stride a = 1) (X : r.shape.Idx → Elt F e) :
    (owns (c : Thread nD τ) (M.slice r hr) fullShare X : sProp 𝕄) ⊢ anyPiece c M r :=
  piece_any c M r X

section Cover
variable {sp : Space} {s : Shape} {e : EltTy} {T : Type} [Fintype T] [DecidableEq T]
variable (c : Dev nD) (M : Memref sig .tc sp s e) (r : T → Rect s) (hr : ∀ t a, (r t).stride a = 1)
  (hd : ∀ t t', t ≠ t' → Disjoint (r t).set (r t').set)
  (hcov : (Finset.univ : Finset T).biUnion (fun t => (r t).set) = Finset.univ) (hM : M.view.set = Finset.univ)
include hr hd hcov hM

theorem split_any : iprop(∃ f : Buf (Elt F) (M.view.loc (c : Thread nD τ)), M.view.loc (c : Thread nD τ) ↦{fullShare} f)
    ⊢ (bigSep Finset.univ fun t => anyPiece c M (r t) : sProp 𝕄) := by
  have h (f : Buf (Elt F) (M.view.loc (c : Thread nD τ))) : (M.view.loc (c : Thread nD τ) ↦{fullShare} f : sProp 𝕄) ⊢ bigSep Finset.univ fun t => anyPiece c M (r t) := by
    refine (Entails.of_eq ((congrArg (fun S => (M.view.loc (c : Thread nD τ) ↦[S]{fullShare} f : sProp 𝕄)) hM.symm).trans
      (pointsTo_rects (c : Thread nD τ) M fullShare r hr hd hcov f))).trans (bigSep_mono fun t _ => owns_any c M (r t) (hr t) _)
  iintro ⟨%f, H⟩
  iapply (h f); iexact H

omit hr in
theorem join_any :
    (bigSep Finset.univ fun t => anyPiece c M (r t) : sProp 𝕄)
      ⊢ iprop(∃ f : Buf (Elt F) (M.view.loc (c : Thread nD τ)), M.view.loc (c : Thread nD τ) ↦{fullShare} f) := by
  have h₁ (t t' : T) (h : t ≠ t') : Disjoint (M.access (r t)).set (M.access (r t')).set := by
    rw [View.set_slice, View.set_slice]; exact (Finset.disjoint_map _).mpr (hd t t' h)
  have h₂ : M.view.set = (Finset.univ : Finset T).biUnion fun t => (M.view.slice (r t)).set := by
    symm
    refine Finset.ext fun i => ⟨fun h => ?_, fun h => ?_⟩
    · obtain ⟨t, -, h⟩ := Finset.mem_biUnion.mp h
      exact View.set_slice_subset _ _ h
    · obtain ⟨x, -, rfl⟩ := Finset.mem_map.mp h
      obtain ⟨t, -, hx⟩ := Finset.mem_biUnion.mp (hcov.symm ▸ Finset.mem_univ x)
      exact Finset.mem_biUnion.mpr ⟨t, Finset.mem_univ _, by rw [View.set_slice]; exact Finset.mem_map_of_mem _ hx⟩
  have f₀ : Buf (Elt F) (M.view.loc (c : Thread nD τ)) := fun _ => Classical.choice (nonempty_elt _)
  exact Ring.pointsTo_blocks_join_exists (ℓ := M.view.loc (c : Thread nD τ)) (q := fullShare) (fun t => ((M.access (r t)).set : Finset (Idx (M.view.loc (c : Thread nD τ))))) h₁ (h₂.symm.trans hM) f₀

end Cover

theorem splitS (c : Dev nD) : iprop(∃ f, (c : Thread nD τ).loc cc0_scratch0 ↦{fullShare} f) ⊢ (bigSep Finset.univ fun x => anyPiece c sM (rS x) : sProp 𝕄) :=
  split_any c sM rS (fun _ _ => rfl) rS_disj rS_cov (View.set_whole _)
theorem splitR (c : Dev nD) : iprop(∃ f, (c : Thread nD τ).loc cc0_scratch1 ↦{fullShare} f) ⊢ (bigSep Finset.univ fun x => anyPiece c rM (rR x) : sProp 𝕄) :=
  split_any c rM rR (fun _ _ => rfl) rR_disj rR_cov (View.set_whole _)
theorem splitB (c : Dev nD) : iprop(∃ f, (c : Thread nD τ).loc cc0_scratch3 ↦{fullShare} f) ⊢ (bigSep Finset.univ fun x => anyPiece c bM (rB x) : sProp 𝕄) :=
  split_any c bM rB (fun _ _ => rfl) rB_disj rB_cov (View.set_whole _)
theorem splitG (c : Dev nD) : iprop(∃ f, (c : Thread nD τ).loc cc0_scratch4 ↦{fullShare} f) ⊢ (bigSep Finset.univ fun x => anyPiece c gM (rR x) : sProp 𝕄) :=
  split_any c gM rR (fun _ _ => rfl) rR_disj rR_cov (View.set_whole _)
theorem splitY (c : Dev nD) : iprop(∃ f, (c : Thread nD τ).loc cc0_stg5_0 ↦{fullShare} f) ⊢ (bigSep Finset.univ fun x => anyPiece c yM (rY x) : sProp 𝕄) :=
  split_any c yM rY (fun _ _ => rfl) rY_disj rY_cov (View.set_whole _)

theorem joinS (c : Dev nD) : (bigSep Finset.univ fun x => anyPiece c sM (rS x) : sProp 𝕄) ⊢ iprop(∃ f, (c : Thread nD τ).loc cc0_scratch0 ↦{fullShare} f) :=
  join_any c sM rS rS_disj rS_cov (View.set_whole _)
theorem joinR (c : Dev nD) : (bigSep Finset.univ fun x => anyPiece c rM (rR x) : sProp 𝕄) ⊢ iprop(∃ f, (c : Thread nD τ).loc cc0_scratch1 ↦{fullShare} f) :=
  join_any c rM rR rR_disj rR_cov (View.set_whole _)
theorem joinB (c : Dev nD) : (bigSep Finset.univ fun x => anyPiece c bM (rB x) : sProp 𝕄) ⊢ iprop(∃ f, (c : Thread nD τ).loc cc0_scratch3 ↦{fullShare} f) :=
  join_any c bM rB rB_disj rB_cov (View.set_whole _)
theorem joinG (c : Dev nD) : (bigSep Finset.univ fun x => anyPiece c gM (rR x) : sProp 𝕄) ⊢ iprop(∃ f, (c : Thread nD τ).loc cc0_scratch4 ↦{fullShare} f) :=
  join_any c gM rR rR_disj rR_cov (View.set_whole _)

/-! ## The result from its pieces -/

theorem yAt_emb (x : Fin 2 × Fin 4) (j : (rY x).shape.Idx) : yAt ((rY x).emb j) = x := by
  by_contra h
  have h₁ := yAt_mem ((rY x).emb j)
  have h₂ : (rY x).emb j ∈ (rY x).set := by rw [← (rY x).map_emb_univ]; exact Finset.mem_map_of_mem _ (Finset.mem_univ j)
  exact Finset.disjoint_left.mp (rY_disj _ _ h) h₁ h₂

theorem inBlock_emb (x : Fin 2 × Fin 4) (j : (rY x).shape.Idx) : inBlock ((rY x).emb j) = j := by
  funext a
  fin_cases a
  · exact Fin.ext (by show 0 + 1 * (j 0).val = (j 0).val; omega)
  · exact Fin.ext (by show 0 + 1 * (j 1).val = (j 1).val; omega)
  · refine Fin.ext ?_
    show (256 * x.2.val + 128 * x.1.val + 1 * (j 2).val) % 128 = (j 2).val
    have : (j 2).val < 128 := (j 2).isLt
    omega

/-- The eight pieces of the result, each at its contents. -/
theorem joinY (c : Dev nD) : (bigSep Finset.univ fun x => piece c yM (rY x) fullShare (yVal m x c) : sProp 𝕄)
    ⊢ (c : Thread nD τ).loc cc0_stg5_0 ↦{fullShare} outAt m c := by
  refine (Entails.of_eq (bigSep_congr fun x _ => show _ = owns (c : Thread nD τ) (yM.slice (rY x) fun _ => rfl) fullShare (fun j => outAt m c ((rY x).emb j)) from by
    rw [show (fun j => outAt m c ((rY x).emb j)) = yVal m x c from funext fun j => by unfold outAt; rw [yAt_emb, inBlock_emb]]
    rfl)).trans ((owns_of_rects (c : Thread nD τ) yM fullShare rY (fun _ _ => rfl) rY_disj rY_cov (outAt m c)).trans ?_)
  unfold owns
  simp only [Memref.view_whole, View.read_whole, View.set_whole]
  iintro ⟨%f, %hf, H⟩
  rw [← hf]
  iexact H

end Buffers

end Cert.KernelIdeal.Hand

end
-- ==== Proof.Body.lean ====
/-
# The body

The parts put together: from what a device starts with to what it ends with, statement by statement.
-/
module

public import proofs.«01_k».proof.Proof.Parts3
public import proofs.«01_k».proof.Proof.Buffers

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body
variable (m : (ℓ : Loc nD τ sig) → Buf (Elt F) ℓ) (K : Dev nD × CK → ℕ)

/-- One program after another. -/
theorem wpc_bind (c : Dev nD) {α β : Type} {p : Prog (TpuEff nD τ sig (Elt F) Λ₀ .tc) α} {k : α → Prog (TpuEff nD τ sig (Elt F) Λ₀ .tc) β} {Q : β → sProp 𝕄} :
    wpc c p (fun a => wpc c (k a) Q) ⊢ wpc c (p >>= k) Q :=
  Entails.of_eq (wp_bind _ _ _ _ _ _).symm

/-! ## From slots to devices and back -/

theorem slots_intro (c : Dev nD) :
    iprop((bigSep Finset.univ fun p => anyPiece c rM (rR p)) ∗ bigSep Finset.univ fun p => anyPiece c gM (rR p))
      ⊢ (iprop(slots c 0 ∗ slots c 1 ∗ slots c 2) : sProp 𝕄) := by
  rw [bigSep_two_three, bigSep_two_three]
  unfold slots
  iintro ⟨⟨R00, R01, R02, R10, R11, R12⟩, G00, G01, G02, G10, G11, G12⟩
  isplitl [R00 R10 G00 G10]
  · isplitl [R00]; · iexact R00
    isplitl [R10]; · iexact R10
    isplitl [G00] <;> iassumption
  isplitl [R01 R11 G01 G11]
  · isplitl [R01]; · iexact R01
    isplitl [R11]; · iexact R11
    isplitl [G01] <;> iassumption
  isplitl [R02]; · iexact R02
  isplitl [R12]; · iexact R12
  isplitl [G02] <;> iassumption

theorem slots_elim (c : Dev nD) :
    (iprop(slots (pr c 0) 0 ∗ slots (pr c 1) 1 ∗ slots (pr c 2) 2) : sProp 𝕄)
      ⊢ iprop((bigSep Finset.univ fun p : Fin 2 × Fin 3 => anyPiece (pr c p.2) rM (rR p)) ∗ bigSep Finset.univ fun p : Fin 2 × Fin 3 => anyPiece (pr c p.2) gM (rR p)) := by
  rw [bigSep_two_three, bigSep_two_three]
  unfold slots
  iintro ⟨⟨R00, R10, G00, G10⟩, ⟨R01, R11, G01, G11⟩, R02, R12, G02, G12⟩
  isplitl [R00 R10 R01 R11 R02 R12]
  · isplitl [R00]; · iexact R00
    isplitl [R01]; · iexact R01
    isplitl [R02]; · iexact R02
    isplitl [R10]; · iexact R10
    isplitl [R11] <;> iassumption
  isplitl [G00]; · iexact G00
  isplitl [G01]; · iexact G01
  isplitl [G02]; · iexact G02
  isplitl [G10]; · iexact G10
  isplitl [G11] <;> iassumption

/-- What the block for the peer in slot `j` needs, half `w`. -/
def halfTo (c : Dev nD) (w : Fin 2) (j : Fin 3) : sProp 𝕄 :=
  iprop(anyPiece c sM (rS (w, pr c j)) ∗ anyPiece (pr c j) rM (rR (w, j)) ∗ kit c 0 1 w j)

theorem blkPre_pr (c : Dev nD) (j : Fin 3) : (blkPre c (pr c j) : sProp 𝕄) = iprop(halfTo c 0 j ∗ halfTo c 1 j) := by
  unfold blkPre half halfTo; rw [if_neg (ne_pr c j), slot_pr]
theorem blkPost_pr (c : Dev nD) (j : Fin 3) : (blkPost c (pr c j) : sProp 𝕄) = iprop(rcv c (0, 0, j) ∗ rcv c (0, 1, j)) := by
  unfold blkPost; rw [if_neg (ne_pr c j), slot_pr]

theorem blks_intro (c : Dev nD) :
    iprop((bigSep Finset.univ fun p : Fin 2 × Fin 3 => anyPiece c sM (rS (p.1, pr c p.2))) ∗ (bigSep Finset.univ fun p : Fin 2 × Fin 3 => anyPiece (pr c p.2) rM (rR p))
        ∗ bigSep Finset.univ fun p : Fin 2 × Fin 3 => kit c 0 1 p.1 p.2)
      ⊢ (iprop(blkPre c 0 ∗ blkPre c 1 ∗ blkPre c 2 ∗ blkPre c 3) : sProp 𝕄) := by
  rw [← bigSep_four (fun t => blkPre c t), spread c (fun j => iprop(halfTo c 0 j ∗ halfTo c 1 j)) (blkPre c) (if_pos rfl) (blkPre_pr c),
    ← bigSep_sep', ← bigSep_sep']
  refine (Entails.of_eq ?_)
  show (bigSep Finset.univ fun p : Fin 2 × Fin 3 => halfTo c p.1 p.2) = _
  rw [bigSep_univ_prod, bigSep_fin_two, bigSep_sep']
  rfl

theorem blks_elim (c : Dev nD) : (iprop(blkPost c 0 ∗ blkPost c 1 ∗ blkPost c 2 ∗ blkPost c 3) : sProp 𝕄)
    ⊢ iprop(rcv c (0, 0, 0) ∗ rcv c (0, 0, 1) ∗ rcv c (0, 0, 2) ∗ rcv c (0, 1, 0) ∗ rcv c (0, 1, 1) ∗ rcv c (0, 1, 2)) := by
  rw [← bigSep_four (fun t => blkPost c t), spread c (fun j => iprop(rcv c (0, 0, j) ∗ rcv c (0, 1, j))) (blkPost c) (if_pos rfl) (blkPost_pr c),
    bigSep_sep', bigSep_three, bigSep_three]
  iintro ⟨⟨R00, R01, R02⟩, R10, R11, R12⟩
  isplitl [R00]; · iexact R00
  isplitl [R01]; · iexact R01
  isplitl [R02]; · iexact R02
  isplitl [R10]; · iexact R10
  isplitl [R11] <;> iassumption

/-- A family over halves and devices: its two members at `c`, and those at the others by slot. -/
theorem turn_two (c : Dev nD) (Φ : Fin 2 × Fin 4 → sProp 𝕄) :
    bigSep Finset.univ Φ = iprop((Φ (0, c) ∗ Φ (1, c)) ∗ bigSep Finset.univ fun p : Fin 2 × Fin 3 => Φ (p.1, pr c p.2)) := by
  rw [bigSep_univ_prod, bigSep_congr fun w _ => turn c fun t => Φ (w, t), bigSep_sep', bigSep_fin_two,
    ← bigSep_univ_prod (fun p : Fin 2 × Fin 3 => Φ (p.1, pr c p.2))]
  rfl

set_option maxHeartbeats 2000000 in
/-- The whole body: every part in order. -/
theorem body_run (c : Dev nD) {Q : PUnit → sProp 𝕄} :
    iprop(records m K ∗ levAts L lv ∗ ow c (O₀ c) ∗ barKit c 2 ∗ barKit c 1 ∗ barKit c 0 ∗ cred (tallyAt (cell c none) () 3) ∗ atPos ER (cell c none) 0 ∅ 0 ∗ xIn m c ∗ wqIn m c ∗ woIn m c ∗ wkIn m c ∗ wvIn m c ∗ ownB m c 0 ∗ bigSep Finset.univ (fun p : Fin 2 × Fin 3 => anyPiece c sM (rS (p.1, pr c p.2))) ∗ bigSep Finset.univ (fun p : Fin 2 × Fin 3 => kit c 0 1 p.1 p.2) ∗ kit c 2 3 0 0 ∗ kit c 2 3 0 1 ∗ kit c 2 3 0 2 ∗ kit c 2 3 1 0 ∗ kit c 2 3 1 1 ∗ kit c 2 3 1 2 ∗ rcv c (1, 0, 0) ∗ rcv c (1, 0, 1) ∗ rcv c (1, 0, 2) ∗ rcv c (1, 1, 0) ∗ rcv c (1, 1, 1) ∗ rcv c (1, 1, 2) ∗ rcv c (3, 0, 0) ∗ rcv c (3, 0, 1) ∗ rcv c (3, 0, 2) ∗ rcv c (3, 1, 0) ∗ rcv c (3, 1, 1) ∗ rcv c (3, 1, 2) ∗ anyPiece c bM (rB 0) ∗ anyPiece c bM (rB 1) ∗ anyPiece c yM (rY (0, 0)) ∗ anyPiece c yM (rY (0, 1)) ∗ anyPiece c yM (rY (0, 2)) ∗ anyPiece c yM (rY (0, 3)) ∗ anyPiece c yM (rY (1, 0)) ∗ anyPiece c yM (rY (1, 1)) ∗ anyPiece c yM (rY (1, 2)) ∗ anyPiece c yM (rY (1, 3)))
      ⊢ iprop(((ow c 0 ∗ semVal (cell c none) 0 ∗ xIn m c ∗ wqIn m c ∗ woIn m c ∗ wkIn m c ∗ wvIn m c ∗ ownI m c ∗ fin c (0, 0, 0) ∗ fin c (0, 0, 1) ∗ fin c (0, 0, 2) ∗ fin c (0, 1, 0) ∗ fin c (0, 1, 1) ∗ fin c (0, 1, 2) ∗ fin c (1, 0, 0) ∗ fin c (1, 0, 1) ∗ fin c (1, 0, 2) ∗ fin c (1, 1, 0) ∗ fin c (1, 1, 1) ∗ fin c (1, 1, 2) ∗ fin c (2, 0, 0) ∗ fin c (2, 0, 1) ∗ fin c (2, 0, 2) ∗ fin c (2, 1, 0) ∗ fin c (2, 1, 1) ∗ fin c (2, 1, 2) ∗ fin c (3, 0, 0) ∗ fin c (3, 0, 1) ∗ fin c (3, 0, 2) ∗ fin c (3, 1, 0) ∗ fin c (3, 1, 1) ∗ fin c (3, 1, 2) ∗ dmaPay m (0, 0, 0) c ∗ dmaPay m (0, 0, 1) c ∗ dmaPay m (0, 0, 2) c ∗ dmaPay m (0, 1, 0) c ∗ dmaPay m (0, 1, 1) c ∗ dmaPay m (0, 1, 2) c ∗ piece c rM (rR (0, 0)) fullShare (rsVal m (0, 0) c) ∗ piece c rM (rR (0, 1)) fullShare (rsVal m (0, 1) c) ∗ piece c rM (rR (0, 2)) fullShare (rsVal m (0, 2) c) ∗ piece c rM (rR (1, 0)) fullShare (rsVal m (1, 0) c) ∗ piece c rM (rR (1, 1)) fullShare (rsVal m (1, 1) c) ∗ piece c rM (rR (1, 2)) fullShare (rsVal m (1, 2) c) ∗ dmaPay m (2, 0, 0) c ∗ dmaPay m (2, 0, 1) c ∗ dmaPay m (2, 0, 2) c ∗ dmaPay m (2, 1, 0) c ∗ dmaPay m (2, 1, 1) c ∗ dmaPay m (2, 1, 2) c ∗ landedAll m c 0 ∗ landedAll m c 1 ∗ piece c yM (rY (0, 0)) fullShare (yVal m (0, 0) c) ∗ piece c yM (rY (0, 1)) fullShare (yVal m (0, 1) c) ∗ piece c yM (rY (0, 2)) fullShare (yVal m (0, 2) c) ∗ piece c yM (rY (0, 3)) fullShare (yVal m (0, 3) c) ∗ piece c yM (rY (1, 0)) fullShare (yVal m (1, 0) c) ∗ piece c yM (rY (1, 1)) fullShare (yVal m (1, 1) c) ∗ piece c yM (rY (1, 2)) fullShare (yVal m (1, 2) c) ∗ piece c yM (rY (1, 3)) fullShare (yVal m (1, 3) c)) -∗ Q ⟨⟩)
        -∗ wpc c (cc0_body (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8) Q) := by
  rw [cc0_body_eq_skeleton]
  unfold cc0_body_skel
  iintro ⟨#HR, #Hlev, HO, Hb2, Hb1, Hb0, Hc, Ha, Hx, Hwq, Hwo, Hwk, Hwv, Hown, Hs, HK, Hk00, Hk01, Hk02, Hk10, Hk11, Hk12, Hr100, Hr101, Hr102, Hr110, Hr111, Hr112, Hr300, Hr301, Hr302, Hr310, Hr311, Hr312, HB0, HB1, Hy00, Hy01, Hy02, Hy03, Hy10, Hy11, Hy12, Hy13⟩ Hk
  iapply wpc_bind
  iapply (part5 m K c) $$ [HO Hb2 Hb1]
  · isplitr; · iexact HR
    isplitl [HO]; · iexact HO
    isplitl [Hb2]; · iexact Hb2
    iexact Hb1
  iintro HO
  iapply wpc_bind
  iapply (part6 m K c _ _ _) $$ [HO Hb0 Hc Ha Hx Hwq Hwk Hwv]
  · isplitr; · iexact HR
    isplitr; · iexact Hlev
    isplitl [HO]; · iexact HO
    isplitl [Hb0]; · iexact Hb0
    isplitl [Hc]; · iexact Hc
    isplitl [Ha]; · iexact Ha
    isplitl [Hx]; · iexact Hx
    isplitl [Hwq]; · iexact Hwq
    isplitl [Hwk]; · iexact Hwk
    iexact Hwv
  iintro ⟨HO, Hz, Hs0, Hs1, Hs2, Hx, Hwq, Hwk, Hwv⟩
  ihave Hsl := (slots_elim c) $$ [Hs0 Hs1 Hs2]
  · isplitl [Hs0]; · iexact Hs0
    isplitl [Hs1]; · iexact Hs1
    iexact Hs2
  icases Hsl with ⟨HR1, HG⟩
  ihave Hg := (Entails.of_eq (bigSep_two_three _)) $$ HG
  icases Hg with ⟨Hg00, Hg01, Hg02, Hg10, Hg11, Hg12⟩
  ihave Hblk := (blks_intro c) $$ [Hs HR1 HK]
  · isplitl [Hs]; · iexact Hs
    isplitl [HR1]; · iexact HR1
    iexact HK
  icases Hblk with ⟨H0, H1, H2, H3⟩
  iapply wpc_bind
  iapply (part7 c _ _ _ _ _)
  iapply wpc_bind
  iapply (part8 m c) $$ Hwo
  iintro Hwo
  iapply wpc_bind
  iapply (part9 m K c) $$ [HO H0 H1 H2 H3 Hown Hwo]
  · isplitr; · iexact HR
    isplitl [HO]; · iexact HO
    isplitl [H0]; · iexact H0
    isplitl [H1]; · iexact H1
    isplitl [H2]; · iexact H2
    isplitl [H3]; · iexact H3
    isplitl [Hown]; · iexact Hown
    iexact Hwo
  iintro ⟨HO, H0, H1, H2, H3, Hown, Hwo⟩
  ihave Hsent := (blks_elim c) $$ [H0 H1 H2 H3]
  · isplitl [H0]; · iexact H0
    isplitl [H1]; · iexact H1
    isplitl [H2]; · iexact H2
    iexact H3
  icases Hsent with ⟨Hr000, Hr001, Hr002, Hr010, Hr011, Hr012⟩
  iapply wpc_bind
  iapply (part10 m K c) $$ [HO Hown Hr100 Hr101]
  · isplitr; · iexact HR
    isplitr; · iexact Hlev
    isplitl [HO]; · iexact HO
    isplitl [Hown]; · iexact Hown
    isplitl [Hr100]; · iexact Hr100
    iexact Hr101
  iintro ⟨HO, Hown, Hf100, Hp100, Hf101, Hp101⟩
  iapply wpc_bind
  iapply (part11 m K c) $$ [HO Hown Hr102 Hp100 Hp101 Hy00 Hy01 Hy02]
  · isplitr; · iexact HR
    isplitr; · iexact Hlev
    isplitl [HO]; · iexact HO
    isplitl [Hown]; · iexact Hown
    isplitl [Hr102]; · iexact Hr102
    isplitl [Hp100]; · iexact Hp100
    isplitl [Hp101]; · iexact Hp101
    isplitl [Hy00]; · iexact Hy00
    isplitl [Hy01]; · iexact Hy01
    iexact Hy02
  iintro ⟨HO, Hown, Hf102, Hp100, Hp101, Hp102, Hy00, Hy01, Hy02⟩
  iapply wpc_bind
  iapply (part12 m K c) $$ [HO Hy03 HB0 Hg00 Hk00]
  · isplitr; · iexact HR
    isplitr; · iexact Hlev
    isplitl [HO]; · iexact HO
    isplitl [Hy03]; · iexact Hy03
    isplitl [HB0]; · iexact HB0
    isplitl [Hg00]; · iexact Hg00
    iexact Hk00
  iintro ⟨HO, Hy03, Hr200, Hb01, Hb02⟩
  ihave Ha01 := (agIn_intro m c 0 1) $$ [Hb01 Hg01 Hk01]
  · isplitl [Hb01]; · iexact Hb01
    isplitl [Hg01]; · iexact Hg01
    iexact Hk01
  iapply wpc_bind
  iapply (part13 m K c _ _ _) $$ [HO Ha01]
  · isplitr; · iexact HR
    isplitr; · iexact Hlev
    isplitl [HO]; · iexact HO
    iexact Ha01
  iintro ⟨HO, Hr201⟩ %v
  ihave Ha02 := (agIn_intro m c 0 2) $$ [Hb02 Hg02 Hk02]
  · isplitl [Hb02]; · iexact Hb02
    isplitl [Hg02]; · iexact Hg02
    iexact Hk02
  iapply wpc_bind
  iapply (part14 m K c _) $$ [HO Ha02 Hr110]
  · isplitr; · iexact HR
    isplitr; · iexact Hlev
    isplitl [HO]; · iexact HO
    isplitl [Ha02]; · iexact Ha02
    iexact Hr110
  iintro ⟨HO, Hr202, Hf110, Hp110⟩
  iapply wpc_bind
  iapply (part15 m K c) $$ [HO Hown Hr111 Hr112 Hp110]
  · isplitr; · iexact HR
    isplitr; · iexact Hlev
    isplitl [HO]; · iexact HO
    isplitl [Hown]; · iexact Hown
    isplitl [Hr111]; · iexact Hr111
    isplitl [Hr112]; · iexact Hr112
    iexact Hp110
  iintro ⟨HO, Hown, Hf111, Hf112, Hp110, Hp111, Hp112⟩
  iapply wpc_bind
  iapply (part16 m K c) $$ [Hy10 Hy11 Hy12 Hy13 HB1]
  · isplitr; · iexact HR
    isplitr; · iexact Hlev
    isplitl [Hy10]; · iexact Hy10
    isplitl [Hy11]; · iexact Hy11
    isplitl [Hy12]; · iexact Hy12
    isplitl [Hy13]; · iexact Hy13
    iexact HB1
  iintro ⟨Hy10, Hy11, Hy12, Hy13, Hb10, Hb11, Hb12⟩
  ihave Ha10 := (agIn_intro m c 1 0) $$ [Hb10 Hg10 Hk10]
  · isplitl [Hb10]; · iexact Hb10
    isplitl [Hg10]; · iexact Hg10
    iexact Hk10
  ihave Ha11 := (agIn_intro m c 1 1) $$ [Hb11 Hg11 Hk11]
  · isplitl [Hb11]; · iexact Hb11
    isplitl [Hg11]; · iexact Hg11
    iexact Hk11
  iapply wpc_bind
  iapply (part17 m K c) $$ [HO Ha10 Ha11]
  · isplitr; · iexact HR
    isplitr; · iexact Hlev
    isplitl [HO]; · iexact HO
    isplitl [Ha10]; · iexact Ha10
    iexact Ha11
  iintro ⟨HO, Hr210, Hr211⟩ %v
  ihave Ha12 := (agIn_intro m c 1 2) $$ [Hb12 Hg12 Hk12]
  · isplitl [Hb12]; · iexact Hb12
    isplitl [Hg12]; · iexact Hg12
    iexact Hk12
  iapply wpc_bind
  iapply (part18 m K c _ _) $$ [HO Ha12 Hr300]
  · isplitr; · iexact HR
    isplitr; · iexact Hlev
    isplitl [HO]; · iexact HO
    isplitl [Ha12]; · iexact Ha12
    iexact Hr300
  iintro ⟨HO, Hr212, Hf300, Hp300⟩
  iapply wpc_bind
  iapply (part19 m K c) $$ [HO Hr301 Hr302 Hp300 Hy00 Hy01]
  · isplitr; · iexact HR
    isplitr; · iexact Hlev
    isplitl [HO]; · iexact HO
    isplitl [Hr301]; · iexact Hr301
    isplitl [Hr302]; · iexact Hr302
    isplitl [Hp300]; · iexact Hp300
    isplitl [Hy00]; · iexact Hy00
    iexact Hy01
  iintro ⟨HO, Hf301, Hf302, Hg0, Hy00, Hy01⟩
  iapply wpc_bind
  iapply (part20 m K c) $$ [HO Hg0 Hy02 Hy03 Hr310 Hr311]
  · isplitr; · iexact HR
    isplitr; · iexact Hlev
    isplitl [HO]; · iexact HO
    isplitl [Hg0]; · iexact Hg0
    isplitl [Hy02]; · iexact Hy02
    isplitl [Hy03]; · iexact Hy03
    isplitl [Hr310]; · iexact Hr310
    iexact Hr311
  iintro ⟨HO, Hg0, Hy02, Hy03, Hf310, Hp310, Hf311, Hp311⟩
  iapply wpc_bind
  iapply (part21 m K c) $$ [HO Hr312 Hp310 Hp311 Hy10 Hy11 Hy12 Hy13 Hr000]
  · isplitr; · iexact HR
    isplitr; · iexact Hlev
    isplitl [HO]; · iexact HO
    isplitl [Hr312]; · iexact Hr312
    isplitl [Hp310]; · iexact Hp310
    isplitl [Hp311]; · iexact Hp311
    isplitl [Hy10]; · iexact Hy10
    isplitl [Hy11]; · iexact Hy11
    isplitl [Hy12]; · iexact Hy12
    isplitl [Hy13]; · iexact Hy13
    iexact Hr000
  iintro ⟨HO, Hf312, Hg1, Hy10, Hy11, Hy12, Hy13, Hf000, Hp000⟩
  iapply wpc_bind
  iapply (part22 m K c) $$ [HO Hr001 Hr002 Hr010]
  · isplitr; · iexact HR
    isplitr; · iexact Hlev
    isplitl [HO]; · iexact HO
    isplitl [Hr001]; · iexact Hr001
    isplitl [Hr002]; · iexact Hr002
    iexact Hr010
  iintro ⟨HO, Hf001, Hp001, Hf002, Hp002, Hf010, Hp010⟩
  iapply wpc_bind
  iapply (part23 m K c) $$ [HO Hr011 Hr012 Hr200]
  · isplitr; · iexact HR
    isplitr; · iexact Hlev
    isplitl [HO]; · iexact HO
    isplitl [Hr011]; · iexact Hr011
    isplitl [Hr012]; · iexact Hr012
    iexact Hr200
  iintro ⟨HO, Hf011, Hp011, Hf012, Hp012, Hf200, Hp200⟩
  iapply wpc_bind
  iapply (part24 m K c) $$ [HO Hr201 Hr202 Hr210]
  · isplitr; · iexact HR
    isplitr; · iexact Hlev
    isplitl [HO]; · iexact HO
    isplitl [Hr201]; · iexact Hr201
    isplitl [Hr202]; · iexact Hr202
    iexact Hr210
  iintro ⟨HO, Hf201, Hp201, Hf202, Hp202, Hf210, Hp210⟩
  simp only [Prog.lift, Prog.bind_op, Prog.bind_ret, Prog.pure_eq_ret]
  iapply (wp_dma_wait m K c (2, 1, 1) _ (sem_eq 2 1 1 _) 0 (Above.zero _) rfl) $$ [HO Hr211]
  · isplitr; · iexact HR
    isplitr; · iexact Hlev
    isplitl [HO]; · iexact HO
    iexact Hr211
  iintro ⟨HO, Hf211, Hp211⟩
  iapply (wp_dma_wait m K c (2, 1, 2) _ (sem_eq 2 1 2 _) 0 (Above.zero _) rfl) $$ [HO Hr212]
  · isplitr; · iexact HR
    isplitr; · iexact Hlev
    isplitl [HO]; · iexact HO
    iexact Hr212
  iintro ⟨HO, Hf212, Hp212⟩
  iapply wpc_ret
  iapply Hk
  isplitl [HO]; · iexact HO
  isplitl [Hz]; · iexact Hz
  isplitl [Hx]; · iexact Hx
  isplitl [Hwq]; · iexact Hwq
  isplitl [Hwo]; · iexact Hwo
  isplitl [Hwk]; · iexact Hwk
  isplitl [Hwv]; · iexact Hwv
  isplitl [Hown]; · iexact Hown
  isplitl [Hf000]; · iexact Hf000
  isplitl [Hf001]; · iexact Hf001
  isplitl [Hf002]; · iexact Hf002
  isplitl [Hf010]; · iexact Hf010
  isplitl [Hf011]; · iexact Hf011
  isplitl [Hf012]; · iexact Hf012
  isplitl [Hf100]; · iexact Hf100
  isplitl [Hf101]; · iexact Hf101
  isplitl [Hf102]; · iexact Hf102
  isplitl [Hf110]; · iexact Hf110
  isplitl [Hf111]; · iexact Hf111
  isplitl [Hf112]; · iexact Hf112
  isplitl [Hf200]; · iexact Hf200
  isplitl [Hf201]; · iexact Hf201
  isplitl [Hf202]; · iexact Hf202
  isplitl [Hf210]; · iexact Hf210
  isplitl [Hf211]; · iexact Hf211
  isplitl [Hf212]; · iexact Hf212
  isplitl [Hf300]; · iexact Hf300
  isplitl [Hf301]; · iexact Hf301
  isplitl [Hf302]; · iexact Hf302
  isplitl [Hf310]; · iexact Hf310
  isplitl [Hf311]; · iexact Hf311
  isplitl [Hf312]; · iexact Hf312
  isplitl [Hp000]; · iexact Hp000
  isplitl [Hp001]; · iexact Hp001
  isplitl [Hp002]; · iexact Hp002
  isplitl [Hp010]; · iexact Hp010
  isplitl [Hp011]; · iexact Hp011
  isplitl [Hp012]; · iexact Hp012
  isplitl [Hp100]; · iexact Hp100
  isplitl [Hp101]; · iexact Hp101
  isplitl [Hp102]; · iexact Hp102
  isplitl [Hp110]; · iexact Hp110
  isplitl [Hp111]; · iexact Hp111
  isplitl [Hp112]; · iexact Hp112
  isplitl [Hp200]; · iexact Hp200
  isplitl [Hp201]; · iexact Hp201
  isplitl [Hp202]; · iexact Hp202
  isplitl [Hp210]; · iexact Hp210
  isplitl [Hp211]; · iexact Hp211
  isplitl [Hp212]; · iexact Hp212
  isplitl [Hg0]; · iexact Hg0
  isplitl [Hg1]; · iexact Hg1
  isplitl [Hy00]; · iexact Hy00
  isplitl [Hy01]; · iexact Hy01
  isplitl [Hy02]; · iexact Hy02
  isplitl [Hy03]; · iexact Hy03
  isplitl [Hy10]; · iexact Hy10
  isplitl [Hy11]; · iexact Hy11
  isplitl [Hy12]; · iexact Hy12
  iexact Hy13

end Body

end Cert.KernelIdeal.Hand

end
-- ==== Proof.Launch.lean ====
/-
# The region's body at its launch

What a device holds when the region begins, its buffers whole; the body's run from there; and what the region needs to know of it.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Launch
variable (m : (ℓ : Loc nD τ sig) → Buf (Elt F) ℓ) (ρ : Dev nD → PrngReg)

theorem bigSep_option {A : Type} [Fintype A] [DecidableEq A] (Φ : Option A → sProp 𝕄) :
    bigSep Finset.univ Φ = iprop(Φ none ∗ bigSep Finset.univ fun x => Φ (some x)) := by
  rw [bigSep_univ_at _ none, show (Finset.univ : Finset (Option A)).erase none = Finset.univ.map Function.Embedding.some from by ext x; cases x <;> simp, bigSep_map]
  rfl

theorem halves (Φ : Fin 2 → sProp 𝕄) : bigSep Finset.univ Φ = iprop(Φ 0 ∗ Φ 1) := bigSep_fin_two Φ

/-- A family over the transfer semaphores, array by array. -/
theorem bigSep_dk (Φ : DK → sProp 𝕄) :
    bigSep Finset.univ Φ = iprop((bigSep Finset.univ fun p => Φ (0, p)) ∗ (bigSep Finset.univ fun p => Φ (1, p)) ∗ (bigSep Finset.univ fun p => Φ (2, p)) ∗ bigSep Finset.univ fun p => Φ (3, p)) := by
  rw [bigSep_univ_prod, bigSep_four]

/-! ## What a device starts with -/

/-- Who pays the duty of a transfer semaphore: the device itself for a send; for a landing the peer, so that this is whose
    landing device `c` pays. -/
def payer (x : DK) (c : Dev nD) : Dev nD := match x.1 with
  | 0 => c | 1 => pr c x.2.2 | 2 => c | 3 => pr c x.2.2

/-- The tokens of the duties device `c` pays; -/
def payToks (c : Dev nD) : sProp 𝕄 :=
  iprop((bigSep Finset.univ fun j : Fin 3 => dutyTok ER (cell (sd c j) none) 0 j) ∗ bigSep Finset.univ fun x : DK => dutyTok ER (cell (payer x c) (some x)) 0 (0 : Fin 3))
/-- with its positions at its own semaphores. -/
def linear (c : Dev nD) : sProp 𝕄 := iprop((bigSep Finset.univ fun k : CK => atPos ER (cell c k) 0 ∅ 0) ∗ payToks c)
/-- The credits of its barrier and of its landings. -/
def credits (c : Dev nD) : sProp 𝕄 :=
  iprop(cred (tallyAt (cell c none) () 3) ∗ (bigSep Finset.univ fun p : Fin 2 × Fin 3 => cred (tallyAt (cell c (some (1, p))) () N))
    ∗ bigSep Finset.univ fun p : Fin 2 × Fin 3 => cred (tallyAt (cell c (some (3, p))) () N))

theorem kit_all (c : Dev nD) (k k' : Fin 4) : (bigSep Finset.univ fun p : Fin 2 × Fin 3 => (kit c k k' p.1 p.2 : sProp 𝕄))
    = iprop((bigSep Finset.univ fun p : Fin 2 × Fin 3 => atPos ER (cell c (some (k, p))) 0 ∅ 0)
      ∗ (bigSep Finset.univ fun p : Fin 2 × Fin 3 => dutyTok ER (cell c (some (k, p))) 0 (0 : Fin 3))
      ∗ bigSep Finset.univ fun p : Fin 2 × Fin 3 => dutyTok ER (cell (pr c p.2) (some (k', p))) 0 (0 : Fin 3)) := by
  unfold kit; rw [bigSep_sep', bigSep_sep']
theorem rcv_all (c : Dev nD) (k : Fin 4) : (bigSep Finset.univ fun p : Fin 2 × Fin 3 => (rcv c (k, p.1, p.2) : sProp 𝕄))
    = iprop((bigSep Finset.univ fun p : Fin 2 × Fin 3 => atPos ER (cell c (some (k, p))) 0 ∅ 0)
      ∗ bigSep Finset.univ fun p : Fin 2 × Fin 3 => cred (tallyAt (cell c (some (k, p))) () N)) := by
  unfold rcv; rw [bigSep_sep']

theorem unpack (c : Dev nD) : (iprop(linear c ∗ credits c) : sProp 𝕄)
    ⊢ iprop(atPos ER (cell c none) 0 ∅ 0 ∗ cred (tallyAt (cell c none) () 3)
      ∗ (dutyTok ER (cell (sd c 0) none) 0 0 ∗ dutyTok ER (cell (sd c 1) none) 0 1 ∗ dutyTok ER (cell (sd c 2) none) 0 2)
      ∗ (bigSep Finset.univ fun p : Fin 2 × Fin 3 => kit c 0 1 p.1 p.2) ∗ (bigSep Finset.univ fun p : Fin 2 × Fin 3 => kit c 2 3 p.1 p.2)
      ∗ (bigSep Finset.univ fun p : Fin 2 × Fin 3 => rcv c (1, p.1, p.2)) ∗ bigSep Finset.univ fun p : Fin 2 × Fin 3 => rcv c (3, p.1, p.2)) := by
  unfold linear payToks credits
  rw [bigSep_option, bigSep_dk, bigSep_dk, bigSep_three, kit_all, kit_all, rcv_all, rcv_all]
  iintro ⟨⟨⟨Ha, Ha0, Ha1, Ha2, Ha3⟩, Hb, Ht0, Ht1, Ht2, Ht3⟩, Hc, Hc1, Hc3⟩
  isplitl [Ha]; · iexact Ha
  isplitl [Hc]; · iexact Hc
  isplitl [Hb]; · iexact Hb
  isplitl [Ha0 Ht0 Ht1]
  · isplitl [Ha0]; · iexact Ha0
    isplitl [Ht0]; · iexact Ht0
    iexact Ht1
  isplitl [Ha2 Ht2 Ht3]
  · isplitl [Ha2]; · iexact Ha2
    isplitl [Ht2]; · iexact Ht2
    iexact Ht3
  isplitl [Ha1 Hc1]
  · isplitl [Ha1]; · iexact Ha1
    iexact Hc1
  isplitl [Ha3]; · iexact Ha3
  iexact Hc3

/-! ## The scratch buffers -/

/-- The five scratch buffers, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

theorem send_back (c : Dev nD) :
    iprop((anyPiece c sM (rS (0, c)) ∗ anyPiece c sM (rS (1, c))) ∗ dmaPay m (0, 0, 0) c ∗ dmaPay m (0, 0, 1) c ∗ dmaPay m (0, 0, 2) c ∗ dmaPay m (0, 1, 0) c ∗ dmaPay m (0, 1, 1) c ∗ dmaPay m (0, 1, 2) c)
      ⊢ (iprop(∃ f : Buf (Elt F) ((c : Thread nD τ).loc cc0_scratch0), ((c : Thread nD τ).loc cc0_scratch0) ↦{fullShare} f) : sProp 𝕄) := by
  refine BIBase.Entails.trans (Entails.of_eq ?_) (joinS c)
  rw [turn_two c, bigSep_two_three]
  rfl

theorem rs_back (c : Dev nD) :
    iprop(piece c rM (rR (0, 0)) fullShare (rsVal m (0, 0) c) ∗ piece c rM (rR (0, 1)) fullShare (rsVal m (0, 1) c) ∗ piece c rM (rR (0, 2)) fullShare (rsVal m (0, 2) c) ∗ piece c rM (rR (1, 0)) fullShare (rsVal m (1, 0) c) ∗ piece c rM (rR (1, 1)) fullShare (rsVal m (1, 1) c) ∗ piece c rM (rR (1, 2)) fullShare (rsVal m (1, 2) c))
      ⊢ (iprop(∃ f : Buf (Elt F) ((c : Thread nD τ).loc cc0_scratch1), ((c : Thread nD τ).loc cc0_scratch1) ↦{fullShare} f) : sProp 𝕄) := by
  refine (Entails.of_eq (bigSep_two_three fun p => piece c rM (rR p) fullShare (rsVal m p c)).symm).trans (BIBase.Entails.trans ?_ (joinR c))
  exact bigSep_mono fun p _ => piece_any c rM (rR p) (rsVal m p c)

theorem ag_back (c : Dev nD) : iprop(landedAll m c 0 ∗ landedAll m c 1)
      ⊢ (iprop(∃ f : Buf (Elt F) ((c : Thread nD τ).loc cc0_scratch4), ((c : Thread nD τ).loc cc0_scratch4) ↦{fullShare} f) : sProp 𝕄) := by
  refine BIBase.Entails.trans ?_ ((bigSep_mono (Φ := fun p : Fin 2 × Fin 3 => piece c gM (rR p) fullShare (gVal m p c)) fun p _ => piece_any c gM (rR p) (gVal m p c)).trans (joinG c))
  rw [bigSep_two_three]
  unfold landedAll
  iintro ⟨⟨H00, H01, H02⟩, H10, H11, H12⟩
  isplitl [H00]; · iexact H00
  isplitl [H01]; · iexact H01
  isplitl [H02]; · iexact H02
  isplitl [H10]; · iexact H10
  isplitl [H11]; · iexact H11
  iexact H12

theorem own_half_back (c : Dev nD) (w : Fin 2) : iprop(dmaPay m (2, w, 0) c ∗ dmaPay m (2, w, 1) c ∗ dmaPay m (2, w, 2) c) ⊢ (anyPiece c bM (rB w) : sProp 𝕄) :=
  (Entails.of_eq (show _ = iprop(piece c bM (rB w) (sh 0) (bVal m w c) ∗ piece c bM (rB w) (sh 1) (bVal m w c) ∗ piece c bM (rB w) (sh 2) (bVal m w c)) from rfl)).trans
    ((piece_thirds c bM (rB w) (bVal m w c)).2.trans (piece_any c bM (rB w) (bVal m w c)))

theorem own_back (c : Dev nD) :
    iprop(dmaPay m (2, 0, 0) c ∗ dmaPay m (2, 0, 1) c ∗ dmaPay m (2, 0, 2) c ∗ dmaPay m (2, 1, 0) c ∗ dmaPay m (2, 1, 1) c ∗ dmaPay m (2, 1, 2) c)
      ⊢ (iprop(∃ f : Buf (Elt F) ((c : Thread nD τ).loc cc0_scratch3), ((c : Thread nD τ).loc cc0_scratch3) ↦{fullShare} f) : sProp 𝕄) := by
  refine BIBase.Entails.trans ?_ (joinB c)
  rw [halves]
  iintro ⟨H00, H01, H02, H10, H11, H12⟩
  isplitl [H00 H01 H02]
  · iapply (own_half_back m c 0)
    isplitl [H00]; · iexact H00
    isplitl [H01]; · iexact H01
    iexact H02
  iapply (own_half_back m c 1)
  isplitl [H10]; · iexact H10
  isplitl [H11]; · iexact H11
  iexact H12

/-! ## The body on whole buffers -/

set_option maxHeartbeats 1000000 in
theorem core_run (K : Dev nD × CK → ℕ) (c : Dev nD) {Q : PUnit → sProp 𝕄} :
    iprop(records m K ∗ levAts L lv ∗ ow c (O₀ c) ∗ (linear c ∗ credits c) ∗ scratch c
        ∗ xIn m c ∗ wqIn m c ∗ woIn m c ∗ wkIn m c ∗ wvIn m c
        ∗ (∃ f : Buf (Elt F) ((c : Thread nD τ).loc cc0_stg5_0), ((c : Thread nD τ).loc cc0_stg5_0) ↦{fullShare} f))
      ⊢ iprop(((ow c 0 ∗ (bigSep Finset.univ fun k : CK => semVal (cell c k) 0) ∗ scratch c
          ∗ xIn m c ∗ wqIn m c ∗ woIn m c ∗ wkIn m c ∗ wvIn m c ∗ (((c : Thread nD τ).loc cc0_stg5_0) ↦{fullShare} outAt m c)) -∗ Q ⟨⟩)
        -∗ wpc c (cc0_body (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8) Q) := by
  unfold scratch
  iintro ⟨#HR, #Hlev, HO, Hlin, ⟨S0, S1, ⟨%f2, S2⟩, S3, S4⟩, Hx, Hwq, Hwo, Hwk, Hwv, Hout⟩ Hk
  ihave Hu := (unpack c) $$ Hlin
  icases Hu with ⟨Ha, Hc, ⟨Ht0, Ht1, Ht2⟩, HK, HK2, HR1, HR3⟩
  ihave HK2 := (Entails.of_eq (bigSep_two_three _)) $$ HK2
  icases HK2 with ⟨Hk00, Hk01, Hk02, Hk10, Hk11, Hk12⟩
  ihave HR1 := (Entails.of_eq (bigSep_two_three _)) $$ HR1
  icases HR1 with ⟨Hr100, Hr101, Hr102, Hr110, Hr111, Hr112⟩
  ihave HR3 := (Entails.of_eq (bigSep_two_three _)) $$ HR3
  icases HR3 with ⟨Hr300, Hr301, Hr302, Hr310, Hr311, Hr312⟩
  ihave Hs := ((splitS c).trans (Entails.of_eq (turn_two c _))) $$ S0
  icases Hs with ⟨Hso, Hs⟩
  ihave HRm := (splitR c) $$ S1
  ihave HGm := (splitG c) $$ S4
  ihave Hsl := (slots_intro c) $$ [HRm HGm]
  · isplitl [HRm]; · iexact HRm
    iexact HGm
  icases Hsl with ⟨Hsl0, Hsl1, Hsl2⟩
  ihave HB := ((splitB c).trans (Entails.of_eq (halves _))) $$ S3
  icases HB with ⟨HB0, HB1⟩
  ihave HY := ((splitY c).trans (Entails.of_eq (bigSep_two_four _))) $$ Hout
  icases HY with ⟨Hy00, Hy01, Hy02, Hy03, Hy10, Hy11, Hy12, Hy13⟩
  iapply (body_run m K c) $$ [HO Ht2 Hsl2 Ht1 Hsl1 Ht0 Hsl0 Hc Ha Hx Hwq Hwo Hwk Hwv S2 Hs HK Hk00 Hk01 Hk02 Hk10 Hk11 Hk12 Hr100 Hr101 Hr102 Hr110 Hr111 Hr112 Hr300 Hr301 Hr302 Hr310 Hr311 Hr312 HB0 HB1 Hy00 Hy01 Hy02 Hy03 Hy10 Hy11 Hy12 Hy13]
  · isplitr; · iexact HR
    isplitr; · iexact Hlev
    isplitl [HO]; · iexact HO
    isplitl [Ht2 Hsl2]; · unfold barKit; isplitl [Ht2] <;> iassumption
    isplitl [Ht1 Hsl1]; · unfold barKit; isplitl [Ht1] <;> iassumption
    isplitl [Ht0 Hsl0]; · unfold barKit; isplitl [Ht0] <;> iassumption
    isplitl [Hc]; · iexact Hc
    isplitl [Ha]; · iexact Ha
    isplitl [Hx]; · iexact Hx
    isplitl [Hwq]; · iexact Hwq
    isplitl [Hwo]; · iexact Hwo
    isplitl [Hwk]; · iexact Hwk
    isplitl [Hwv]; · iexact Hwv
    isplitl [S2]
    · unfold ownB; iexists f2; isplitr; · (ipureintro; exact fun h => absurd h (Nat.not_lt_zero _))
      iexact S2
    isplitl [Hs]; · iexact Hs
    isplitl [HK]; · iexact HK
    isplitl [Hk00]; · iexact Hk00
    isplitl [Hk01]; · iexact Hk01
    isplitl [Hk02]; · iexact Hk02
    isplitl [Hk10]; · iexact Hk10
    isplitl [Hk11]; · iexact Hk11
    isplitl [Hk12]; · iexact Hk12
    isplitl [Hr100]; · iexact Hr100
    isplitl [Hr101]; · iexact Hr101
    isplitl [Hr102]; · iexact Hr102
    isplitl [Hr110]; · iexact Hr110
    isplitl [Hr111]; · iexact Hr111
    isplitl [Hr112]; · iexact Hr112
    isplitl [Hr300]; · iexact Hr300
    isplitl [Hr301]; · iexact Hr301
    isplitl [Hr302]; · iexact Hr302
    isplitl [Hr310]; · iexact Hr310
    isplitl [Hr311]; · iexact Hr311
    isplitl [Hr312]; · iexact Hr312
    isplitl [HB0]; · iexact HB0
    isplitl [HB1]; · iexact HB1
    isplitl [Hy00]; · iexact Hy00
    isplitl [Hy01]; · iexact Hy01
    isplitl [Hy02]; · iexact Hy02
    isplitl [Hy03]; · iexact Hy03
    isplitl [Hy10]; · iexact Hy10
    isplitl [Hy11]; · iexact Hy11
    isplitl [Hy12]; · iexact Hy12
    iexact Hy13
  iintro ⟨HO, Hz, Hx, Hwq, Hwo, Hwk, Hwv, Hown, Hf000, Hf001, Hf002, Hf010, Hf011, Hf012, Hf100, Hf101, Hf102, Hf110, Hf111, Hf112, Hf200, Hf201, Hf202, Hf210, Hf211, Hf212, Hf300, Hf301, Hf302, Hf310, Hf311, Hf312, Hp000, Hp001, Hp002, Hp010, Hp011, Hp012, Hp100, Hp101, Hp102, Hp110, Hp111, Hp112, Hp200, Hp201, Hp202, Hp210, Hp211, Hp212, Hg0, Hg1, Hy00, Hy01, Hy02, Hy03, Hy10, Hy11, Hy12, Hy13⟩
  iapply Hk
  isplitl [HO]; · iexact HO
  isplitl [Hz Hf000 Hf001 Hf002 Hf010 Hf011 Hf012 Hf100 Hf101 Hf102 Hf110 Hf111 Hf112 Hf200 Hf201 Hf202 Hf210 Hf211 Hf212 Hf300 Hf301 Hf302 Hf310 Hf311 Hf312]
  · rw [bigSep_option, bigSep_dk, bigSep_two_three, bigSep_two_three, bigSep_two_three, bigSep_two_three]
    unfold fin
    isplitl [Hz]; · iexact Hz
    isplitl [Hf000 Hf001 Hf002 Hf010 Hf011 Hf012]
    · isplitl [Hf000]; · iexact Hf000
      isplitl [Hf001]; · iexact Hf001
      isplitl [Hf002]; · iexact Hf002
      isplitl [Hf010]; · iexact Hf010
      isplitl [Hf011]; · iexact Hf011
      iexact Hf012
    isplitl [Hf100 Hf101 Hf102 Hf110 Hf111 Hf112]
    · isplitl [Hf100]; · iexact Hf100
      isplitl [Hf101]; · iexact Hf101
      isplitl [Hf102]; · iexact Hf102
      isplitl [Hf110]; · iexact Hf110
      isplitl [Hf111]; · iexact Hf111
      iexact Hf112
    isplitl [Hf200 Hf201 Hf202 Hf210 Hf211 Hf212]
    · isplitl [Hf200]; · iexact Hf200
      isplitl [Hf201]; · iexact Hf201
      isplitl [Hf202]; · iexact Hf202
      isplitl [Hf210]; · iexact Hf210
      isplitl [Hf211]; · iexact Hf211
      iexact Hf212
    isplitl [Hf300]; · iexact Hf300
    isplitl [Hf301]; · iexact Hf301
    isplitl [Hf302]; · iexact Hf302
    isplitl [Hf310]; · iexact Hf310
    isplitl [Hf311]; · iexact Hf311
    iexact Hf312
  isplitl [Hso Hp000 Hp001 Hp002 Hp010 Hp011 Hp012 Hp100 Hp101 Hp102 Hp110 Hp111 Hp112 Hp200 Hp201 Hp202 Hp210 Hp211 Hp212 Hown Hg0 Hg1]
  · isplitl [Hso Hp000 Hp001 Hp002 Hp010 Hp011 Hp012]
    · iapply (send_back m c)
      isplitl [Hso]; · iexact Hso
      isplitl [Hp000]; · iexact Hp000
      isplitl [Hp001]; · iexact Hp001
      isplitl [Hp002]; · iexact Hp002
      isplitl [Hp010]; · iexact Hp010
      isplitl [Hp011]; · iexact Hp011
      iexact Hp012
    isplitl [Hp100 Hp101 Hp102 Hp110 Hp111 Hp112]
    · iapply (rs_back m c)
      isplitl [Hp100]; · iexact Hp100
      isplitl [Hp101]; · iexact Hp101
      isplitl [Hp102]; · iexact Hp102
      isplitl [Hp110]; · iexact Hp110
      isplitl [Hp111]; · iexact Hp111
      iexact Hp112
    isplitl [Hown]; · (unfold ownI; iexists _; iexact Hown)
    isplitl [Hp200 Hp201 Hp202 Hp210 Hp211 Hp212]
    · iapply (own_back m c)
      isplitl [Hp200]; · iexact Hp200
      isplitl [Hp201]; · iexact Hp201
      isplitl [Hp202]; · iexact Hp202
      isplitl [Hp210]; · iexact Hp210
      isplitl [Hp211]; · iexact Hp211
      iexact Hp212
    iapply (ag_back m c)
    isplitl [Hg0]; · iexact Hg0
    iexact Hg1
  isplitl [Hx]; · iexact Hx
  isplitl [Hwq]; · iexact Hwq
  isplitl [Hwo]; · iexact Hwo
  isplitl [Hwk]; · iexact Hwk
  isplitl [Hwv]; · iexact Hwv
  iapply (joinY m c)
  iapply (Entails.of_eq (bigSep_two_four fun x => piece c yM (rY x) fullShare (yVal m x c)).symm)
  isplitl [Hy00]; · iexact Hy00
  isplitl [Hy01]; · iexact Hy01
  isplitl [Hy02]; · iexact Hy02
  isplitl [Hy03]; · iexact Hy03
  isplitl [Hy10]; · iexact Hy10
  isplitl [Hy11]; · iexact Hy11
  isplitl [Hy12]; · iexact Hy12
  iexact Hy13

/-! ## The region's data -/

def s₀ : MemSt nD τ sig (Elt F) := ⟨m, fun _ => 0, ρ⟩

/-- What the region's body starts from; -/
def start (c : Dev nD) : sProp 𝕄 := iprop((∃ K, records m K ∗ linear c) ∗ credits c ∗ levAts L lv)
def Φ₀ (c : Dev nD) : sProp 𝕄 := iprop(start m c ∗ scratch c)
/-- and what it leaves: the scratch buffers and every semaphore at zero. -/
def Φ₁ (c : Dev nD) : sProp 𝕄 := iprop((bigSep Finset.univ fun k : CK => semVal (cell c k) 0) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => wqv m c
    | ⟨2, _⟩ => wov m c
    | ⟨3, _⟩ => wkv m c
    | ⟨4, _⟩ => wvv m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer whole, at contents `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ c ∗ (dats m ρ 0 c).owesAt () t0_0.succ
    ∗ stg c cc0_stg0_0 (xv m c) ∗ stg c cc0_stg1_0 (wqv m c) ∗ stg c cc0_stg2_0 (wov m c) ∗ stg c cc0_stg3_0 (wkv m c) ∗ stg c cc0_stg4_0 (wvv m c)
    ∗ stg c cc0_stg5_0 (outAt m c))

theorem stg_in (c : Dev nD) (b : Ref sig .tc) (X : b.ty.Contents (Elt F)) {A : b.ty.Contents (Elt F) → b.ty.Contents (Elt F)} (h : ∀ d, A d = X) :
    (iprop(∃ d, stg c b (A d)) : sProp 𝕄) ⊢ ((c : Thread nD τ).loc b) ↦{fullShare} X := by
  unfold stg
  iintro ⟨%d, %f, %hf, H⟩
  rw [← h d, ← hf]; iexact H
theorem stg_some (c : Dev nD) (b : Ref sig .tc) {A : b.ty.Contents (Elt F) → b.ty.Contents (Elt F)} :
    (iprop(∃ d, stg c b (A d)) : sProp 𝕄) ⊢ iprop(∃ f : Buf (Elt F) ((c : Thread nD τ).loc b), (((c : Thread nD τ).loc b) ↦{fullShare} f)) := by
  unfold stg
  iintro ⟨%d, %f, -, H⟩
  iexists f; iexact H
theorem stg_out (c : Dev nD) (b : Ref sig .tc) (X : b.ty.Contents (Elt F)) :
    (((c : Thread nD τ).loc b) ↦{fullShare} X) ⊢ (stg c b X : sProp 𝕄) := by
  unfold stg
  iintro H; iexists X; isplitr; · (ipureintro; rfl)
  iexact H

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpc c (cc0_body (F := F) xM (Memref.isWhole_whole _) wqM (Memref.isWhole_whole _) woM (Memref.isWhole_whole _) wkM (Memref.isWhole_whole _) wvM (Memref.isWhole_whole _) yM (Memref.isWhole_whole _)
          sM (Memref.isWhole_whole _) rM (Memref.isWhole_whole _) oM (Memref.isWhole_whole _) bM (Memref.isWhole_whole _) gM (Memref.isWhole_whole _)
          cc0_scratch5 cc0_scratch6 cc0_scratch7 cc0_scratch8) (fun _ => bodyPost m ρ c)
  unfold bodyPre Φ₀ start
  iintro ⟨⟨⟨⟨%K, #HR, Hlin⟩, Hcr, #Hlev⟩, Hscr⟩, Ho, H0, H1, H2, H3, H4, H5⟩
  ihave Hx := (stg_in c cc0_stg0_0 (xv m c) fun d => by unfold Dat.before; rw [if_pos (fetch0_0 t0_0)]; rfl) $$ H0
  ihave Hwq := (stg_in c cc0_stg1_0 (wqv m c) fun d => by unfold Dat.before; rw [if_pos (fetch0_1 t0_0)]; rfl) $$ H1
  ihave Hwo := (stg_in c cc0_stg2_0 (wov m c) fun d => by unfold Dat.before; rw [if_pos (fetch0_2 t0_0)]; rfl) $$ H2
  ihave Hwk := (stg_in c cc0_stg3_0 (wkv m c) fun d => by unfold Dat.before; rw [if_pos (fetch0_3 t0_0)]; rfl) $$ H3
  ihave Hwv := (stg_in c cc0_stg4_0 (wvv m c) fun d => by unfold Dat.before; rw [if_pos (fetch0_4 t0_0)]; rfl) $$ H4
  ihave Hout := (stg_some c cc0_stg5_0) $$ H5
  unfold Dat.owesAt Pipeline.owesWithin
  icases Ho with ⟨%W, %hW, HO⟩
  rw [show (dats m ρ 0 c).owed t0_0.castSucc = O₀ c from rfl]
  ihave HO := (show owes (c : Thread nD τ) (O₀ c) W ⊢ ow c (O₀ c) from by unfold ow; iintro H; iexists W; iexact H) $$ HO
  iapply (core_run m K c) $$ [HO Hlin Hcr Hscr Hx Hwq Hwo Hwk Hwv Hout]
  · isplitr; · iexact HR
    isplitr; · iexact Hlev
    isplitl [HO]; · iexact HO
    isplitl [Hlin Hcr]; · isplitl [Hlin] <;> iassumption
    isplitl [Hscr]; · iexact Hscr
    unfold xIn wqIn woIn wkIn wvIn
    isplitl [Hx]; · iexact Hx
    isplitl [Hwq]; · iexact Hwq
    isplitl [Hwo]; · iexact Hwo
    isplitl [Hwk]; · iexact Hwk
    isplitl [Hwv]; · iexact Hwv
    iexact Hout
  iintro ⟨HO, Hz, Hscr, Hx, Hwq, Hwo, Hwk, Hwv, Hout⟩
  unfold bodyPost Φ₁ ow xIn wqIn woIn wkIn wvIn
  isplitl [Hz Hscr]; · isplitl [Hz] <;> iassumption
  isplitl [HO]
  · unfold Dat.owesAt Pipeline.owesWithin
    icases HO with ⟨%W', HO⟩
    iexists W'
    isplitr; · ipureintro; exact fun _ _ => Or.inl trivial
    iexact HO
  isplitl [Hx]; · (iapply (stg_out c cc0_stg0_0 (xv m c)); iexact Hx)
  isplitl [Hwq]; · (iapply (stg_out c cc0_stg1_0 (wqv m c)); iexact Hwq)
  isplitl [Hwo]; · (iapply (stg_out c cc0_stg2_0 (wov m c)); iexact Hwo)
  isplitl [Hwk]; · (iapply (stg_out c cc0_stg3_0 (wkv m c)); iexact Hwk)
  isplitl [Hwv]; · (iapply (stg_out c cc0_stg4_0 (wvv m c)); iexact Hwv)
  iapply (stg_out c cc0_stg5_0 (outAt m c)); iexact Hout

end Launch

end Cert.KernelIdeal.Hand

end
-- ==== Proof.Run.lean ====
/-
# The run

The semaphores' invariants set up for every device at once, the duties' tokens handed to who pays, and the run of the whole program.
-/
module

public import proofs.«01_k».proof.Proof.Launch
public import Idealize.ShloMosaic.Lib.Pipeline.CollectiveSegs

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Run
variable (m : (ℓ : Loc nD τ sig) → Buf (Elt F) ℓ) (ρ : Dev nD → PrngReg)

/-! ## The kernel's own semaphores, and all cells and duties -/

/-- The transfer semaphores as the launch lists them. -/
abbrev osem : DK → SemLoc sig := fun x => .dma (dsem x)

set_option maxRecDepth 8000 in
theorem ownSemFacts : Pipeline.OwnSemFacts cfg0.spec osem := by decide +kernel

theorem share_eq (c : Dev nD) (w : Fin cfg0.W) : (dats m ρ 0 c).share w = fullShare := by unfold Dat.share; split <;> rfl

theorem cells_injective : Function.Injective fun p : Dev nD × CK => (cell p.1 p.2 : GSem nD τ sig) := fun p q h =>
  Prod.ext (cell_inj h).1 (cell_inj h).2
def allCells : Finset (GSem nD τ sig) := Finset.univ.map ⟨_, cells_injective⟩

/-- The duties of a device's own semaphores: the barrier's three, and one of each transfer semaphore. -/
def tokOf (p : Dev nD × (Fin 3 ⊕ DK)) : GSem nD τ sig × ℕ × Fin 3 := match p.2 with
  | .inl j => (cell p.1 none, 0, j)
  | .inr x => (cell p.1 (some x), 0, 0)
theorem tokOf_injective : Function.Injective tokOf := by
  rintro ⟨c, a⟩ ⟨d, b⟩ h
  have hc : (tokOf (c, a)).1 = (tokOf (d, b)).1 := congrArg Prod.fst h
  have hj : (tokOf (c, a)).2.2 = (tokOf (d, b)).2.2 := congrArg (fun t => t.2.2) h
  cases a with
  | inl i => cases b with
    | inl j => obtain ⟨h1, -⟩ := cell_inj (k := none) (k' := none) hc
               exact Prod.ext h1 (congrArg Sum.inl hj)
    | inr y => obtain ⟨-, h2⟩ := cell_inj (k := none) (k' := some y) hc
               cases h2
  | inr x => cases b with
    | inl j => obtain ⟨-, h2⟩ := cell_inj (k := some x) (k' := none) hc
               cases h2
    | inr y => obtain ⟨h1, h2⟩ := cell_inj (k := some x) (k' := some y) hc
               exact Prod.ext h1 (congrArg Sum.inr (Option.some.inj h2))
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The duty tokens of device `c`'s own semaphores. -/
def toks (c : Dev nD) : sProp 𝕄 :=
  iprop((bigSep Finset.univ fun j : Fin 3 => dutyTok ER (cell c none) 0 j) ∗ bigSep Finset.univ fun x : DK => dutyTok ER (cell c (some x)) 0 (0 : Fin 3))
/-- What the launch deals device `c`; -/
def G (c : Dev nD) : sProp 𝕄 :=
  iprop((bigSep Finset.univ fun k : CK => roundState ER (Rd m) (cell c k) 0)
    ∗ (bigSep Finset.univ fun k : CK => iprop(atPos ER (cell c k) 0 ∅ 0 ∗ reached ER (cell c k) 0)) ∗ toks c)
/-- and what becomes of it. -/
def G' (c : Dev nD) : sProp 𝕄 := iprop(∃ K, records m K ∗ linear c)

theorem fund_rounds : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The runtime's barrier semaphore is the one semaphore no launch owns. -/
theorem unscopedSems0_eq (c : Dev nD) : (unscopedSems0 c : sProp 𝕄) = semVal (cell c none) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = bigSep Finset.univ fun x : DK => semVal (cell c (some x)) 0 := by unfold Pipeline.ownSems0; rfl

theorem sems0_eq (c : Dev nD) : (bigSep Finset.univ fun k : CK => semVal (cell c k) 0 : sProp 𝕄)
    = iprop(unscopedSems0 c ∗ Pipeline.ownSems0 (Ix := Unit) (Name := ℕ) (U := UU) (Lvl := ℕ) (Val := Elt F) (τ := τ) osem c) := by
  rw [bigSep_option, unscopedSems0_eq, ownSems0_eq]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k => iprop(atPos ER (cell c k) 0 ∅ 0 ∗ reached ER (cell c k) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CK => semVal (cell c k) 0) ∗ bigSep Finset.univ fun k : CK => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens to who pays -/

theorem payer_eq (x : DK) : (∀ c, payer x c = c) ∨ (∀ c, payer x c = around x.2.2 c) := by
  obtain ⟨k, w, j⟩ := x
  fin_cases k
  · exact Or.inl fun _ => rfl
  · exact Or.inr fun _ => rfl
  · exact Or.inl fun _ => rfl
  · exact Or.inr fun _ => rfl

theorem toks_around : (bigSep Finset.univ fun c : Dev nD => (toks c : sProp 𝕄)) ⊢ bigSep Finset.univ fun c : Dev nD => payToks c := by
  unfold toks payToks
  rw [bigSep_sep', bigSep_sep', bigSep_univ_comm, bigSep_univ_comm (fun (c : Dev nD) (x : DK) => (dutyTok ER (cell c (some x)) 0 (0 : Fin 3) : sProp 𝕄)),
    bigSep_univ_comm (fun (c : Dev nD) (j : Fin 3) => (dutyTok ER (cell (sd c j) none) 0 j : sProp 𝕄)),
    bigSep_univ_comm (fun (c : Dev nD) (x : DK) => (dutyTok ER (cell (payer x c) (some x)) 0 (0 : Fin 3) : sProp 𝕄))]
  refine (sep_mono_left (bigSep_mono fun j _ => Entails.of_eq (bigSep_univ_equiv (around j).symm (fun c => (dutyTok ER (cell c none) 0 j : sProp 𝕄))))).trans
    (sep_mono_right (bigSep_mono fun x _ => show (_ : sProp 𝕄) ⊢ _ from Entails.of_eq ?_))
  rcases payer_eq x with h | h
  · exact bigSep_congr fun c _ => by rw [h]
  · rw [bigSep_univ_equiv (around x.2.2) (fun c => (dutyTok ER (cell c (some x)) 0 (0 : Fin 3) : sProp 𝕄))]
    exact bigSep_congr fun c _ => by rw [h]

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (cell c k)))
          ∗ (bigSep Finset.univ fun k => iprop(atPos ER (cell c k) 0 ∅ 0 ∗ reached ER (cell c k) 0)) ∗ toks c) : sProp 𝕄)
      ⊢ bigSep Finset.univ (G' m) := by
  rw [bigSep_sep', bigSep_sep', ← bigSep_univ_prod (fun p : Dev nD × CK => iprop(∃ κ : ℕ, cellInv ER (Rd m) κ (cell p.1 p.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun p : Dev nD × CK => (reached ER (cell p.1 p.2) 0 : sProp 𝕄))]
  iintro ⟨HI, ⟨Hat, #HR⟩, Htok⟩
  ihave HK := (BI.bigSep_exists_pi Finset.univ (fun (p : Dev nD × CK) (κ : ℕ) => (cellInv ER (Rd m) κ (cell p.1 p.2) : sProp 𝕄))) $$ HI
  icases HK with ⟨%K, #HI⟩
  ihave Htk := (toks_around (F := F)) $$ Htok
  iapply (with_records (R := records m K) (Φ := fun c => linear c) fun c _ => show iprop(records m K ∗ linear c) ⊢ G' m c from by
    unfold G'; iintro H; iexists K; iexact H)
  isplitr
  · unfold records; isplitl; · iexact HI
    iexact HR
  · unfold linear
    rw [bigSep_sep']
    isplitl [Hat]; · iexact Hat
    iexact Htk

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit dealt at the launch: what the devices owe -/

set_option backward.proofsInPublic true in
/-- How many blocks and how many units device `d` owes the semaphore `k` of device `c`. -/
def owedBlocks (d c : Dev nD) (k : CK) : ℕ := match k with
  | some (1, _, j) => if c = pr d j then 1 else 0
  | some (3, _, j) => if c = pr d j then 1 else 0
  | _ => 0
def owedUnits (d c : Dev nD) (k : CK) : ℕ := match k with
  | none => if c = d then 0 else 1
  | _ => 0

theorem owed_eq (d c : Dev nD) (k : CK) : O₀ d (cell c k) () = N * owedBlocks d c k + owedUnits d c k := by
  have hT (c' : Dev nD) (k' : CK) (a : ℕ) : (tallyAt (cell c' k') () a : CellTallies nD τ sig Unit) (cell c k) () = if c = c' ∧ k = k' then a else 0 := by
    rw [tallyAt_apply]
    by_cases e : c = c' ∧ k = k'
    · rw [e.1, e.2, if_pos ⟨rfl, rfl⟩, if_pos ⟨rfl, rfl⟩]
    · rw [if_neg e, if_neg fun h => e (cell_inj h.1)]
  have hB (t : Dev nD) : blk d t (cell c k) () = N * (if d = t then 0 else (if c = t ∧ k = some (1, 1, slot d t) then 1 else 0) + if c = t ∧ k = some (1, 0, slot d t) then 1 else 0) := by
    unfold blk
    by_cases e : d = t
    · rw [if_pos e, if_pos e]; rfl
    · rw [if_neg e, if_neg e, Pi.add_apply, Finsupp.add_apply, hT, hT]
      split <;> split <;> simp [Nat.mul_two]
  have hN (P : Prop) [Decidable P] : (if P then N else 0) = N * if P then 1 else 0 := by split <;> simp
  unfold O₀ oRs oAg oAg1
  simp only [Pi.add_apply, Finsupp.add_apply, hB, hT, hN, Pi.zero_apply, Finsupp.zero_apply]
  generalize N = n
  simp only [Nat.zero_add, ← Nat.mul_add, Nat.add_assoc]
  clear hT hB hN
  congr 1
  · refine congrArg (n * ·) ?_
    clear n
    revert d c k; decide +kernel
  · clear n
    revert d c k; decide +kernel

theorem owed_bar : ∀ c, ∑ d, owedBlocks d c none = 0 ∧ ∑ d, owedUnits d c none = 3 := by decide +kernel
theorem owed_land : ∀ (c : Dev nD) (p : Fin 2 × Fin 3), (∑ d, owedBlocks d c (some (1, p)) = 1 ∧ ∑ d, owedUnits d c (some (1, p)) = 0)
    ∧ ∑ d, owedBlocks d c (some (3, p)) = 1 ∧ ∑ d, owedUnits d c (some (3, p)) = 0 := by decide +kernel

theorem launch_at (c : Dev nD) (k : CK) (a b n : ℕ) (h : (∑ d, owedBlocks d c k = a) ∧ ∑ d, owedUnits d c k = b) (hn : N * a + b = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, Finset.sum_congr rfl fun d _ => owed_eq d c k, Finset.sum_add_distrib, ← Finset.mul_sum, h.1, h.2, hn]

theorem creds (c : Dev nD) : (Pipeline.launchCred O₀ c : sProp 𝕄) ⊢ credits c := by
  unfold Pipeline.launchCred credits
  refine (bigSep_subset (Finset.subset_univ (Finset.univ.map ⟨csem, csem_inj⟩))).trans ?_
  rw [bigSep_map, bigSep_option, bigSep_dk]
  refine BIClass.sep_mono (Entails.of_eq (congrArg cred (launch_at c none 0 3 3 (owed_bar c) (by omega)))) ?_
  iintro ⟨-, H1, -, H3⟩
  isplitl [H1]
  · iapply (show _ ⊢ (bigSep Finset.univ fun p : Fin 2 × Fin 3 => cred (tallyAt (cell c (some (1, p))) () N) : sProp 𝕄) from
      Entails.of_eq (bigSep_congr fun p _ => congrArg cred (launch_at c (some (1, p)) 1 0 N (owed_land c p).1 (by omega))))
    iexact H1
  · iapply (show _ ⊢ (bigSep Finset.univ fun p : Fin 2 × Fin 3 => cred (tallyAt (cell c (some (3, p))) () N) : sProp 𝕄) from
      Entails.of_eq (bigSep_congr fun p _ => congrArg cred (launch_at c (some (3, p)) 1 0 N (owed_land c p).2 (by omega))))
    iexact H3

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [sems0_eq]
  iintro ⟨⟨Hu, Ho⟩, Hr⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> decide) _ (by
      rcases t with ⟨_ | _, ht⟩
      · exact above_O₀ c
      · exact Above.zero 0)

/-! ## The run -/

/-- An array of the region when it ends. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The program on the mesh of four devices, for any float values, from any memory with zero counters: every fair run ends,
    with each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_rounds m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array holds what it held. -/
theorem finalA_in (c : Dev nD) (w : Fin cfg0.W) (h : (cfg0.win w).isOut = false) :
    finalA m ρ c w = m ((cfg0.win w).arr.view.loc (c : Thread nD τ)) :=
  (dats (F := F) m ρ 0 c).arrAt_in w h _

end Run

end Cert.KernelIdeal.Hand

end
-- ==== Proof.Frames.lean ====
/-
# The frames

Each program ends with its arguments as they were and every counter at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.TcCoe Idealize.SL.Sem

section Kernel
open Cert.KernelIdeal Cert.KernelIdeal.Gen
variable {F : FTy → Type} [FloatOps F]

/-- What the kernel's run leaves, array by array. -/
theorem run_kernel (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_v1) = Hand.finalA m ρ c (5 : Fin 6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun _ h => ⟨fun c => ⟨h.1 c (5 : Fin 6),
    (h.1 c (0 : Fin 6)).trans (Hand.finalA_in m ρ c (0 : Fin 6) rfl),
    (h.1 c (1 : Fin 6)).trans (Hand.finalA_in m ρ c (1 : Fin 6) rfl),
    (h.1 c (3 : Fin 6)).trans (Hand.finalA_in m ρ c (3 : Fin 6) rfl),
    (h.1 c (4 : Fin 6)).trans (Hand.finalA_in m ρ c (4 : Fin 6) rfl),
    (h.1 c (2 : Fin 6)).trans (Hand.finalA_in m ρ c (2 : Fin 6) rfl)⟩, h.2⟩) (Hand.run_main m ρ)

/-- The arguments and the counters alone. -/
theorem frame_any (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun _ h => ⟨fun c => (h.1 c).2, h.2⟩) (run_kernel m ρ)

end Kernel

theorem frame_ideal : Cert.quiescent_KernelIdeal := fun m ρ _ => frame_any (F := Ideal) m ρ

/-- The two programs run the same bodies. -/
theorem defs_same {F : FTy → Type} [FloatOps F] : Cert.Kernel.defs (F := F) = Cert.KernelIdeal.defs (F := F) := by
  refine congrArg (Pipeline.defs Cert.KernelIdeal.pcfgs) (congrArg Defs.onTc ?_)
  funext l a
  obtain ⟨_ | n, h⟩ := l
  · rfl
  · exact absurd h (Nat.not_lt.2 (Nat.le_add_left _ _))

theorem frame_kernel : Cert.quiescent_Kernel := fun m ρ _ => by
  rw [defs_same]
  exact frame_any (F := Bits) m ρ

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

end Cert.Proof

end
-- ==== Proof.Heads.lean ====
/-
# One head of the kernel, index by index
-/
module

public import proofs.«01_k».proof.Proof.Schedule
public import Idealize.ShloMosaic.Lib.Pointwise

@[expose] public section

set_option maxRecDepth 16384

noncomputable section

namespace Cert.KernelIdeal.Hand

open Cert.KernelIdeal Cert.KernelIdeal.Gen
open Idealize.ShloMosaic
open Idealize.ShloMosaic.TcCoe

section Any
variable {F : FTy → Type} [FloatOps F]

/-- One head: columns `o … o + 127` of the queries, keys and values. -/
def head (o : ℕ) (h : S256x1024.Slices ![0, o] S256x128) (q k v : FVec F S256x1024 .f32) : FVec F S256x128 .f32 :=
  have e : FVec F S256x256 .f32 := exp (mulf (matmul dot_S256x128_S256x128_S256x256_1_1_0_0_n_n none (extractStridedSlice S256x128 ![0, o] q h)
    (extractStridedSlice S256x128 ![0, o] k h) (constant S256x256 .f32 0x00000000#32)) (broadcast S256x256 (Scalar.ofBits .f32 0x3DB504F3#32)))
  divf (matmul dot_S256x256_S256x128_S256x128_1_0_0_1_n_n none e (extractStridedSlice S256x128 ![0, o] v h) (constant S256x128 .f32 0x00000000#32))
    (broadcastTo S256x128 (shapeCast S256x1 (multiReduction .add [1] S256 e 0x00000000#32 reduces_S256x256_S256 (.inl rfl) rfl) shapeCasts_S256_S256x1)
      broadcasts_S256x1_S256x128)

/-- The eight heads of a device side by side. -/
def heads (q k v : FVec F S256x1024 .f32) : FVec F S256x1024 .f32 :=
  concatenate S256x1024 1 [⟨S256x128, head 0 slices_S256x1024_o0_0_S256x128 q k v⟩, ⟨S256x128, head 128 slices_S256x1024_o0_128_S256x128 q k v⟩,
    ⟨S256x128, head 256 slices_S256x1024_o0_256_S256x128 q k v⟩, ⟨S256x128, head 384 slices_S256x1024_o0_384_S256x128 q k v⟩,
    ⟨S256x128, head 512 slices_S256x1024_o0_512_S256x128 q k v⟩, ⟨S256x128, head 640 slices_S256x1024_o0_640_S256x128 q k v⟩,
    ⟨S256x128, head 768 slices_S256x1024_o0_768_S256x128 q k v⟩, ⟨S256x128, head 896 slices_S256x1024_o0_896_S256x128 q k v⟩]
    concatenates_S256x128_S256x128_S256x128_S256x128_S256x128_S256x128_S256x128_S256x128_S256x1024_d1

theorem attn_eq (m : (ℓ : Loc nD τ sig) → Buf (Elt F) ℓ) (c : Dev nD) : attn m c = heads (qv m c) (kv m c) (vv m c) := rfl

end Any

section AtIdeal

/-- The scale of the scores. -/
def σ : EReal := Ideal.ofBits .f32 0x3DB504F3#32

theorem head_apply (o : ℕ) (h : S256x1024.Slices ![0, o] S256x128) (ho : o + 128 ≤ 1024) (q k v : FVec Ideal S256x1024 .f32) (i : Fin 256) (d : Fin 128) :
    head o h q k v (ix2 i d)
      = Ideal.div (∑ j : Fin 256, Ideal.exp ((∑ d' : Fin 128, q (ix2 i ⟨o + d'.val, by omega⟩) * k (ix2 j ⟨o + d'.val, by omega⟩)) * σ)
            * v (ix2 j ⟨o + d.val, by omega⟩))
          (∑ j : Fin 256, Ideal.exp ((∑ d' : Fin 128, q (ix2 i ⟨o + d'.val, by omega⟩) * k (ix2 j ⟨o + d'.val, by omega⟩)) * σ)) := by
  unfold σ
  pointwise [head]

/-- The weight of key row `j` for query row `i` in the head of 128 columns that starts at column `128 * b`. -/
def wgt (q k : FVec Ideal S256x1024 .f32) (b : Fin 8) (i j : Fin 256) : EReal :=
  Ideal.exp ((∑ d : Fin 128, q (ix2 i ⟨128 * b.val + d.val, by omega⟩) * k (ix2 j ⟨128 * b.val + d.val, by omega⟩)) * σ)

/-- The head that column `n` lies in. -/
def hd (n : Fin 1024) : Fin 8 := ⟨n.val / 128, by omega⟩

/-- Eight blocks of 128 columns side by side, read at a column. -/
theorem side_apply (f0 f1 f2 f3 f4 f5 f6 f7 : FVec Ideal S256x128 .f32) (g : Fin 256 → Fin 1024 → EReal)
    (h0 : ∀ i d, f0 (ix2 i d) = g i ⟨d.val, by omega⟩) (h1 : ∀ i d, f1 (ix2 i d) = g i ⟨128 + d.val, by omega⟩)
    (h2 : ∀ i d, f2 (ix2 i d) = g i ⟨256 + d.val, by omega⟩) (h3 : ∀ i d, f3 (ix2 i d) = g i ⟨384 + d.val, by omega⟩)
    (h4 : ∀ i d, f4 (ix2 i d) = g i ⟨512 + d.val, by omega⟩) (h5 : ∀ i d, f5 (ix2 i d) = g i ⟨640 + d.val, by omega⟩)
    (h6 : ∀ i d, f6 (ix2 i d) = g i ⟨768 + d.val, by omega⟩) (h7 : ∀ i d, f7 (ix2 i d) = g i ⟨896 + d.val, by omega⟩)
    (i : Fin 256) (n : Fin 1024) :
    concatenate S256x1024 1 [⟨S256x128, f0⟩, ⟨S256x128, f1⟩, ⟨S256x128, f2⟩, ⟨S256x128, f3⟩, ⟨S256x128, f4⟩, ⟨S256x128, f5⟩, ⟨S256x128, f6⟩, ⟨S256x128, f7⟩]
      concatenates_S256x128_S256x128_S256x128_S256x128_S256x128_S256x128_S256x128_S256x128_S256x1024_d1 (ix2 i n) = g i n := by
  pointwise
  split_ifs <;> simp only [h0, h1, h2, h3, h4, h5, h6, h7] <;> exact congrArg (g i) (Fin.ext (by dsimp only; omega))

theorem head_at (b : Fin 8) (o : ℕ) (ho : o = 128 * b.val) (h : S256x1024.Slices ![0, o] S256x128) (q k v : FVec Ideal S256x1024 .f32)
    (i : Fin 256) (n : Fin 1024) (d : Fin 128) (hn : n.val = o + d.val) :
    head o h q k v (ix2 i d) = Ideal.div (∑ j : Fin 256, wgt q k (hd n) i j * v (ix2 j n)) (∑ j : Fin 256, wgt q k (hd n) i j) := by
  subst ho
  have e : hd n = b := Fin.ext (by simp only [hd]; omega)
  have e' : (⟨128 * b.val + d.val, by omega⟩ : Fin 1024) = n := Fin.ext hn.symm
  rw [head_apply _ h (by omega), e, e']
  rfl

theorem heads_apply (q k v : FVec Ideal S256x1024 .f32) (i : Fin 256) (n : Fin 1024) :
    heads q k v (ix2 i n) = Ideal.div (∑ j : Fin 256, wgt q k (hd n) i j * v (ix2 j n)) (∑ j : Fin 256, wgt q k (hd n) i j) := by
  unfold heads
  exact side_apply _ _ _ _ _ _ _ _
    (fun i n => Ideal.div (∑ j : Fin 256, wgt q k (hd n) i j * v (ix2 j n)) (∑ j : Fin 256, wgt q k (hd n) i j))
    (fun i d => head_at 0 0 rfl _ q k v i _ d (Nat.zero_add _).symm) (fun i d => head_at 1 128 rfl _ q k v i _ d rfl)
    (fun i d => head_at 2 256 rfl _ q k v i _ d rfl) (fun i d => head_at 3 384 rfl _ q k v i _ d rfl)
    (fun i d => head_at 4 512 rfl _ q k v i _ d rfl) (fun i d => head_at 5 640 rfl _ q k v i _ d rfl)
    (fun i d => head_at 6 768 rfl _ q k v i _ d rfl) (fun i d => head_at 7 896 rfl _ q k v i _ d rfl) i n

theorem proj_apply (x : FVec Ideal S1x256x1024 .f32) (w : FVec Ideal S1024x1024 .f32) (i : Fin 256) (n : Fin 1024) :
    k0_pay10 x w (ix2 i n) = ∑ k : Fin 1024, x (ix3 0 i k) * w (ix2 k n) := by
  pointwise [k0_pay10, k0_pay9]

/-- Keys and values are projected by the same operation. -/
theorem pay11_eq : @k0_pay11 = @k0_pay10 := rfl
theorem pay12_eq : @k0_pay12 = @k0_pay10 := rfl

theorem pay27_apply (a : FVec Ideal S256x1024 .f32) (w : Vec Ideal S1024x256 .f32) (i n : Fin 256) :
    k0_pay27 a w (ix2 i n) = ∑ k : Fin 1024, a (ix2 i k) * w (ix2 k n) := by
  pointwise [k0_pay27]

theorem pay1_apply (a : FVec Ideal S256x256 .f32) (i : Fin 256) (n : Fin 128) : k0_pay1 a (ix4 0 0 i n) = a (ix2 i ⟨n.val, by omega⟩) := by
  pointwise [k0_pay1]
theorem pay2_apply (a : FVec Ideal S256x256 .f32) (i : Fin 256) (n : Fin 128) : k0_pay25 (k0_pay2 a) (ix4 0 0 i n) = a (ix2 i ⟨128 + n.val, by omega⟩) := by
  pointwise [k0_pay25, k0_pay2]
theorem pay26_eq (a : FVec Ideal S256x256 .f32) (i n : Fin 256) : k0_pay26 a (ix2 i n) = a (ix2 i n) := by
  pointwise [k0_pay26]
theorem pay36_apply (a : Vec Ideal S256x128 .f32) (b c d : Vec Ideal S1x1x256x128 .bf16) (i : Fin 256) (n : Fin 128) :
    k0_pay36 a b c d (ix2 i n) = a (ix2 i n) + b (ix4 0 0 i n) + c (ix4 0 0 i n) + d (ix4 0 0 i n) := by
  pointwise [k0_pay36]
theorem pay40_apply (a : FVec Ideal S256x128 .f32) (i : Fin 256) (n : Fin 128) : k0_pay40 a (ix3 0 i n) = a (ix2 i n) := by
  pointwise [k0_pay40]
theorem pay41_apply (a : FVec Ideal S256x128 .f32) (i : Fin 256) (n : Fin 128) : k0_pay41 a (ix3 0 i n) = a (ix2 i n) := by
  pointwise [k0_pay41]
theorem pay48_apply (a : FVec Ideal S1x1x256x128 .bf16) (i : Fin 256) (n : Fin 128) : k0_pay48 (F := Ideal) a (ix3 0 i n) = (a (ix4 0 0 i n) : EReal) := by
  pointwise [k0_pay48]

end AtIdeal
end Cert.KernelIdeal.Hand
end
-- ==== Proof.Values.lean ====
/-
# The kernel's result, index by index

Element `(i, n)` of every device's result is the sum over the devices of that device's attention output times its rows of
the output weight.
-/
module

public import proofs.«01_k».proof.Proof.Heads
public import proofs.«01_k».proof.Proof.Run
public import Idealize.ShloMosaic.Lib.ValueLayout

@[expose] public section

set_option maxRecDepth 16384

noncomputable section

namespace Cert.KernelIdeal.Hand

open Cert.KernelIdeal Cert.KernelIdeal.Gen
open Idealize.ShloMosaic
open Idealize.ShloMosaic.TcCoe

section Any
variable {F : FTy → Type} [FloatOps F] (m : (ℓ : Loc nD τ sig) → Buf (Elt F) ℓ) (ρ : Dev nD → PrngReg)

/-- A window is the whole of its array. -/
theorem blk0_emb (i : S1x256x1024.Idx) : (win0_0.blk (0 : Fin 1)).view.emb i = i :=
  funext fun a => by fin_cases a <;> exact Fin.ext (by show 0 * _ + 1 * _ = _; omega)
theorem blk1_emb (i : S1024x1024.Idx) : (win0_1.blk (0 : Fin 1)).view.emb i = i :=
  funext fun a => by fin_cases a <;> exact Fin.ext (by show 0 * _ + 1 * _ = _; omega)

/-- What is staged is the argument. -/
theorem xv_eq (c : Dev nD) : xv m c = m ((c : Thread nD τ).loc main_arg0) := funext fun i => congrArg (m ((c : Thread nD τ).loc main_arg0)) (blk0_emb i)
theorem wqv_eq (c : Dev nD) : wqv m c = m ((c : Thread nD τ).loc main_arg1) := funext fun i => congrArg (m ((c : Thread nD τ).loc main_arg1)) (blk1_emb i)
theorem wkv_eq (c : Dev nD) : wkv m c = m ((c : Thread nD τ).loc main_arg2) := funext fun i => congrArg (m ((c : Thread nD τ).loc main_arg2)) (blk1_emb i)
theorem wvv_eq (c : Dev nD) : wvv m c = m ((c : Thread nD τ).loc main_arg3) := funext fun i => congrArg (m ((c : Thread nD τ).loc main_arg3)) (blk1_emb i)
theorem wov_eq (c : Dev nD) : wov m c = m ((c : Thread nD τ).loc main_arg4) := funext fun i => congrArg (m ((c : Thread nD τ).loc main_arg4)) (blk1_emb i)

theorem blk5_emb (t : Fin cfg0.N) (i : S1x256x1024.Idx) : (win0_5.blk t).view.emb i = i :=
  funext fun a => by fin_cases a <;> exact Fin.ext (by show 0 * _ + 1 * _ = _; omega)

/-- The result's array ends at the computed result. -/
theorem finalA_out (c : Dev nD) : finalA m ρ c (5 : Fin 6) = outAt m c := by
  refine Pipeline.Dat.arrAt_eq_of_cover (dats m ρ 0 c) (5 : Fin 6) (outAt m c) (fun t _ => funext fun i => ?_) (fun i => ⟨t0_0, flush0_5 _, ?_⟩)
  · exact (congrArg (outAt m c) (blk5_emb t i)).symm
  · have h := (win0_5.blk t0_0).view.emb_mem_set i
    rwa [blk5_emb] at h

end Any

section AtIdeal
variable (m : (ℓ : Loc nD τ sig) → Buf (Elt Ideal) ℓ)

/-- Device `c`'s part of element `(i, n)` of the result. -/
def part (c : Dev nD) (i : Fin 256) (n : Fin 1024) : EReal := ∑ k : Fin 1024, attn m c (ix2 i k) * wov m c (ix2 k n)

theorem woCols_apply (t : Fin 4) (c : Dev nD) (k : Fin 1024) (n : Fin 256) : woCols m t c (ix2 k n) = wov m c (ix2 k ⟨256 * t.val + n.val, by omega⟩) := by
  refine congrArg (wov m c) (funext fun a => ?_)
  fin_cases a
  · exact Fin.ext (by show 0 + 1 * k.val = k.val; omega)
  · exact Fin.ext (by show 256 * t.val + 1 * n.val = 256 * t.val + n.val; omega)

theorem chunk_apply (t : Fin 4) (c : Dev nD) (i n : Fin 256) : chunk m t c (ix2 i n) = part m c i ⟨256 * t.val + n.val, by omega⟩ := by
  unfold chunk part
  rw [pay27_apply]
  exact Finset.sum_congr rfl fun k _ => by rw [woCols_apply]

theorem sendVal_apply (w : Fin 2) (t : Fin 4) (c : Dev nD) (i : Fin 256) (n : Fin 128) :
    sendVal m (w, t) c (ix4 0 0 i n) = part m c i ⟨256 * t.val + 128 * w.val + n.val, by omega⟩ := by
  unfold sendVal
  fin_cases w
  · refine (pay1_apply _ i n).trans ((chunk_apply m t c i _).trans (congrArg (part m c i) (Fin.ext ?_)))
    simp
  · refine (pay2_apply _ i n).trans ((chunk_apply m t c i _).trans (congrArg (part m c i) (Fin.ext ?_)))
    simp; omega

theorem ownHalf_apply (w : Fin 2) (c : Fin 4) (i : Fin 256) (n : Fin 128) :
    ownHalf m w c (ix2 i n) = part m c i ⟨256 * c.val + 128 * w.val + n.val, by omega⟩ := by
  have e : ownHalf m w c (ix2 i n) = ownSt m c (ix2 i ⟨128 * w.val + n.val, by omega⟩) := by
    refine congrArg (ownSt m c) (funext fun a => ?_)
    fin_cases a
    · exact Fin.ext (by show 0 + 1 * i.val = i.val; omega)
    · exact Fin.ext (by show 128 * w.val + 1 * n.val = 128 * w.val + n.val; omega)
  rw [e]
  refine (pay26_eq _ i _).trans ((chunk_apply m c c i _).trans (congrArg (part m c i) (Fin.ext ?_)))
  show 256 * c.val + (128 * w.val + n.val) = 256 * c.val + 128 * w.val + n.val
  omega

/-- A device and its three peers are all the devices. -/
theorem sum_sd (f : Dev nD → EReal) (c : Dev nD) : f c + f (sd c 0) + f (sd c 1) + f (sd c 2) = ∑ e : Fin 4, f e := by
  rw [Fin.sum_univ_four]
  fin_cases c
  · show f 0 + f 3 + f 2 + f 1 = f 0 + f 1 + f 2 + f 3; ac_rfl
  · show f 1 + f 0 + f 3 + f 2 = f 0 + f 1 + f 2 + f 3; ac_rfl
  · show f 2 + f 1 + f 0 + f 3 = f 0 + f 1 + f 2 + f 3; ac_rfl
  · show f 3 + f 2 + f 1 + f 0 = f 0 + f 1 + f 2 + f 3; ac_rfl

theorem total_apply (w : Fin 2) (c : Fin 4) (i : Fin 256) (n : Fin 128) :
    total m w c (ix2 i n) = ∑ e : Fin 4, part m e i ⟨256 * c.val + 128 * w.val + n.val, by omega⟩ := by
  unfold total
  rw [pay36_apply, ownHalf_apply, ← sum_sd _ c]
  unfold rsVal
  rw [sendVal_apply, sendVal_apply, sendVal_apply]

theorem gVal_apply (x : Fin 2 × Fin 3) (c : Dev nD) (i : Fin 256) (n : Fin 128) :
    gVal m x c (ix4 0 0 i n) = bVal m x.1 (sd c x.2) (ix3 0 i n) := by
  unfold gVal
  refine congrArg (bVal m x.1 (sd c x.2)) ?_
  rw [show (ix4 0 0 i n : S1x1x256x128.Idx) = _ from (ValueIdx.reshapeEquiv_ix2_11ab squeezes_S1x1x256x128_S256x128.numel_eq i n).symm, Equiv.symm_apply_apply]
  exact ValueIdx.reshapeEquiv_ix2_1ab _ i n

theorem yVal_apply (w : Fin 2) (t : Fin 4) (c : Dev nD) (i : Fin 256) (n : Fin 128) :
    yVal m (w, t) c (ix3 0 i n) = total m w t (ix2 i n) := by
  unfold yVal
  split
  · rename_i h; subst h
    exact pay40_apply _ i n
  · rename_i h
    rw [pay48_apply, gVal_apply, sd_slot _ _ (Ne.symm h)]
    exact pay41_apply _ i n

/-- Element `(i, n)` of a device's result. -/
theorem outAt_apply (c : Dev nD) (i : Fin 256) (n : Fin 1024) : outAt m c (ix3 0 i n) = ∑ e : Fin 4, part m e i n := by
  unfold outAt
  have e : inBlock (ix3 0 i n) = ix3 0 i ⟨n.val % 128, by omega⟩ := funext fun a => by fin_cases a <;> rfl
  rw [e]
  rw [show yAt (ix3 0 i n) = (⟨n.val % 256 / 128, by omega⟩, ⟨n.val / 256, by omega⟩) from rfl]
  refine (yVal_apply m _ _ c i _).trans ((total_apply m _ _ i _).trans (Finset.sum_congr rfl fun e _ => congrArg (part m e i) (Fin.ext ?_)))
  show 256 * (n.val / 256) + 128 * (n.val % 256 / 128) + n.val % 128 = n.val
  omega

end AtIdeal
end Cert.KernelIdeal.Hand
end
-- ==== Proof.Reference.lean ====
/-
# The reference's result, index by index
-/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic
open Idealize.ShloMosaic.TcCoe

section Any
variable {F : FTy → Type} [FloatOps F]

/-- A projection of the input, its columns read as 32 heads of 128. -/
def proj (x : FVec F S1x256x1024 .f32) (w : FVec F S1024x4096 .f32) : FVec F S1x256x32x128 .f32 :=
  shapeCast S1x256x32x128 (Host.dotGeneral dot_S1x256x1024_S1024x4096_S1x256x4096_2_0_01_1_n_n none x w : FVec F S1x256x4096 .f32) shapeCasts_S1x256x4096_S1x256x32x128

/-- The scaled scores. -/
def scores (q k : FVec F S1x256x32x128 .f32) : FVec F S1x32x256x256 .f32 :=
  mulf (Host.dotGeneral dot_S1x256x32x128_S1x256x32x128_S1x32x256x256_3_3_1_1_02_02 none q k)
    (broadcastInDim S1x32x256x256 ![] bcast_S_S1x32x256x256 (constant S_ .f32 0x3DB504F3#32))

/-- The array the running maximum starts at. -/
def low : FVec F S1x32x256x1 .f32 := broadcastInDim S1x32x256x1 ![] bcast_S_S1x32x256x1 (constant S_ .f32 0xFF800000#32)

/-- The rows' maxima. -/
def top (s : FVec F S1x32x256x256 .f32) : FVec F S1x32x256x1 .f32 :=
  maximumf low (broadcastInDim S1x32x256x1 ![0, 1, 2] bcast_S1x32x256_S1x32x256x1_0_1_2
    (Host.reduce FloatOps.maximumf s (constant S_ .f32 0xFF800000#32) reducesTo_S1x32x256x256_S1x32x256_d3 h_S_))

/-- The shifted weights. -/
def weights (s : FVec F S1x32x256x256 .f32) (M : FVec F S1x32x256x1 .f32) : FVec F S1x32x256x256 .f32 :=
  Host.exp (subf s (broadcastInDim S1x32x256x256 ![0, 1, 2, 3] bcast_S1x32x256x1_S1x32x256x256_0_1_2_3 M))

/-- The factor on what was summed before. -/
def alpha (M : FVec F S1x32x256x1 .f32) : FVec F S1x32x256x1 .f32 := Host.exp (subf low M)

/-- The rows' sums of weights. -/
def sums (p : FVec F S1x32x256x256 .f32) (a : FVec F S1x32x256x1 .f32) : FVec F S1x32x256x1 .f32 :=
  addf (mulf (broadcastInDim S1x32x256x1 ![] bcast_S_S1x32x256x1 (constant S_ .f32 0x00000000#32)) a)
    (broadcastInDim S1x32x256x1 ![0, 1, 2] bcast_S1x32x256_S1x32x256x1_0_1_2
      (Host.reduceAdd p (constant S_ .f32 0x00000000#32) reducesTo_S1x32x256x256_S1x32x256_d3 h_S_))

/-- The weighted sums of the values. -/
def mixed (v : FVec F S1x256x32x128 .f32) (p : FVec F S1x32x256x256 .f32) (a : FVec F S1x32x256x1 .f32) : FVec F S1x256x32x128 .f32 :=
  addf (mulf (broadcastInDim S1x256x32x128 ![] bcast_S_S1x256x32x128 (constant S_ .f32 0x00000000#32))
      (broadcastInDim S1x256x32x128 ![0, 1, 2, 3] bcast_S1x256x32x1_S1x256x32x128_0_1_2_3 (transpose S1x256x32x1 [0, 2, 1, 3] a transposes_S1x32x256x1_S1x256x32x1_0_2_1_3)))
    (transpose S1x256x32x128 [0, 3, 1, 2] (Host.dotGeneral dot_S1x256x32x128_S1x32x256x256_S1x32x128x256_1_3_3_2_02_01 none v p : FVec F S1x32x128x256 .f32)
      transposes_S1x32x128x256_S1x256x32x128_0_3_1_2)

/-- Their quotient, all heads side by side. -/
def joined (o : FVec F S1x256x32x128 .f32) (l : FVec F S1x32x256x1 .f32) : FVec F S1x256x4096 .f32 :=
  shapeCast S1x256x4096 (Host.divf o (broadcastInDim S1x256x32x128 ![0, 1, 2, 3] bcast_S1x256x32x1_S1x256x32x128_0_1_2_3
    (transpose S1x256x32x1 [0, 2, 1, 3] l transposes_S1x32x256x1_S1x256x32x1_0_2_1_3)) : FVec F S1x256x32x128 .f32) shapeCasts_S1x256x32x128_S1x256x4096

/-- The attention output from queries, keys and values. -/
def attended (q k v : FVec F S1x256x32x128 .f32) : FVec F S1x256x4096 .f32 :=
  joined (mixed v (weights (scores q k) (top (scores q k))) (alpha (top (scores q k)))) (sums (weights (scores q k) (top (scores q k))) (alpha (top (scores q k))))

theorem res_eq (m : (ℓ : Loc nD τ sig) → Buf (Elt F) ℓ) (c : Dev nD) : Value.res_main_v34 m c
    = Host.dotGeneral dot_S1x256x4096_S4096x1024_S1x256x1024_2_0_01_1_n_n none
      (attended (proj (m ((c : Thread nD τ).loc main_arg0)) (m ((c : Thread nD τ).loc main_arg1)))
        (proj (m ((c : Thread nD τ).loc main_arg0)) (m ((c : Thread nD τ).loc main_arg2)))
        (proj (m ((c : Thread nD τ).loc main_arg0)) (m ((c : Thread nD τ).loc main_arg3))) : FVec F S1x256x4096 .f32)
      (m ((c : Thread nD τ).loc main_arg4)) := rfl

end Any

section AtIdeal

theorem proj_apply (x : FVec Ideal S1x256x1024 .f32) (w : FVec Ideal S1024x4096 .f32) (i : Fin 256) (h : Fin 32) (d : Fin 128) :
    proj x w (ix4 0 i h d) = ∑ k : Fin 1024, x (ix3 0 i k) * w (ix2 k ⟨h.val * 128 + d.val, by omega⟩) := by
  pointwise [proj]

theorem scores_apply (q k : FVec Ideal S1x256x32x128 .f32) (h : Fin 32) (i j : Fin 256) :
    scores q k (ix4 0 h i j) = (∑ d : Fin 128, q (ix4 0 i h d) * k (ix4 0 j h d)) * Ideal.ofBits .f32 0x3DB504F3#32 := by
  pointwise [scores]

theorem low_eq : Ideal.ofBits .f32 0xFF800000#32 = ⊥ := by simp [Ideal.ofBits, Ideal.ieee]

theorem top_apply (s : FVec Ideal S1x32x256x256 .f32) (h : Fin 32) (i : Fin 256) :
    top s (ix4 0 h i 0) = Finset.univ.sup fun j : Fin 256 => (s (ix4 0 h i j) : EReal) := by
  pointwise [top, low]
  rw [low_eq, max_eq_right bot_le]
  rfl

theorem weights_apply (s : FVec Ideal S1x32x256x256 .f32) (M : FVec Ideal S1x32x256x1 .f32) (h : Fin 32) (i j : Fin 256) :
    weights s M (ix4 0 h i j) = Ideal.exp (s (ix4 0 h i j) - M (ix4 0 h i 0)) := by
  pointwise [weights]

theorem sums_apply (p : FVec Ideal S1x32x256x256 .f32) (a : FVec Ideal S1x32x256x1 .f32) (h : Fin 32) (i : Fin 256) :
    sums p a (ix4 0 h i 0) = ∑ j : Fin 256, p (ix4 0 h i j) := by
  pointwise [sums]
  rw [zero_mul, zero_add]

theorem mixed_apply (v : FVec Ideal S1x256x32x128 .f32) (p : FVec Ideal S1x32x256x256 .f32) (a : FVec Ideal S1x32x256x1 .f32) (i : Fin 256) (h : Fin 32) (d : Fin 128) :
    mixed v p a (ix4 0 i h d) = ∑ j : Fin 256, v (ix4 0 j h d) * p (ix4 0 h i j) := by
  pointwise [mixed]
  rw [zero_mul, zero_add]

theorem joined_apply (o : FVec Ideal S1x256x32x128 .f32) (l : FVec Ideal S1x32x256x1 .f32) (i : Fin 256) (k : Fin 4096) :
    joined o l (ix3 0 i k) = Ideal.div (o (ix4 0 i ⟨k.val / 128, by omega⟩ ⟨k.val % 128, by omega⟩)) (l (ix4 0 ⟨k.val / 128, by omega⟩ i 0)) := by
  pointwise [joined]

theorem out_apply (a : FVec Ideal S1x256x4096 .f32) (w : FVec Ideal S4096x1024 .f32) (i : Fin 256) (n : Fin 1024) :
    (Host.dotGeneral dot_S1x256x4096_S4096x1024_S1x256x1024_2_0_01_1_n_n none a w : FVec Ideal S1x256x1024 .f32) (ix3 0 i n)
      = ∑ k : Fin 4096, a (ix3 0 i k) * w (ix2 k n) := by
  pointwise

end AtIdeal
end Cert.ReferenceIdeal.Hand
end
-- ==== Proof.Shift.lean ====
/-
# A quotient of weighted sums does not change when the scores shift

The reference takes its weights as exponentials of the scores less their row's maximum, the kernel as exponentials of the
scores themselves. With finite scores the two differ by one positive real factor, which leaves the quotient of the
weighted sum and the sum of the weights as it was, whatever the values are.
-/
module

public import Idealize.ShloMosaic.PureOps.Ideal

@[expose] public section

noncomputable section

namespace Cert.Hand

open Idealize.ShloMosaic

/-- A real factor comes out of a sum. -/
theorem real_mul_sum {ι : Type} (s : Finset ι) (c : ℝ) (f : ι → EReal) (hc : 0 ≤ c) : ∑ j ∈ s, (c : EReal) * f j = (c : EReal) * ∑ j ∈ s, f j := by
  classical
  induction s using Finset.induction_on with
  | empty => simp
  | insert a t ha ih =>
    rw [Finset.sum_insert ha, Finset.sum_insert ha, ih, EReal.left_distrib_of_nonneg_of_ne_top (by exact_mod_cast hc) (EReal.coe_ne_top c)]

/-- A sum of reals is real. -/
theorem real_sum {ι : Type} (s : Finset ι) (f : ι → ℝ) : ∑ j ∈ s, (f j : EReal) = ((∑ j ∈ s, f j : ℝ) : EReal) := by
  classical
  induction s using Finset.induction_on with
  | empty => simp
  | insert a t ha ih => rw [Finset.sum_insert ha, Finset.sum_insert ha, ih, EReal.coe_add]

/-- The largest of finitely many reals is real. -/
theorem real_sup {n : ℕ} (r : Fin (n + 1) → ℝ) : ∃ μ : ℝ, (Finset.univ.sup fun j => (r j : EReal)) = (μ : EReal) := by
  obtain ⟨j, -, h⟩ := Finset.exists_mem_eq_sup Finset.univ Finset.univ_nonempty fun j => (r j : EReal)
  exact ⟨r j, h⟩

theorem shift {n : ℕ} (r : Fin (n + 1) → ℝ) (v : Fin (n + 1) → EReal) :
    Ideal.div (∑ j, v j * Ideal.exp ((r j : EReal) - Finset.univ.sup fun j => (r j : EReal)))
        (∑ j, Ideal.exp ((r j : EReal) - Finset.univ.sup fun j => (r j : EReal)))
      = Ideal.div (∑ j, Ideal.exp (r j : EReal) * v j) (∑ j, Ideal.exp (r j : EReal)) := by
  obtain ⟨μ, hμ⟩ := real_sup r
  have e (j : Fin (n + 1)) : Ideal.exp ((r j : EReal) - (μ : EReal)) = (Real.exp (-μ) : EReal) * (Real.exp (r j) : EReal) := by
    rw [← EReal.coe_sub, Ideal.exp_coe, ← EReal.coe_mul, ← Real.exp_add, neg_add_eq_sub]
  have hc : (0 : ℝ) < Real.exp (-μ) := Real.exp_pos _
  have hL : (0 : ℝ) < ∑ j, Real.exp (r j) := Finset.sum_pos (fun j _ => Real.exp_pos _) Finset.univ_nonempty
  have e1 : (∑ j, v j * Ideal.exp ((r j : EReal) - (μ : EReal))) = (Real.exp (-μ) : EReal) * ∑ j, Ideal.exp (r j : EReal) * v j := by
    rw [← real_mul_sum _ _ _ hc.le]
    refine Finset.sum_congr rfl fun j _ => ?_
    rw [e, Ideal.exp_coe, mul_comm, mul_assoc]
  have e2 : (∑ j, Ideal.exp ((r j : EReal) - (μ : EReal))) = ((Real.exp (-μ) * ∑ j, Real.exp (r j) : ℝ) : EReal) := by
    rw [EReal.coe_mul, ← real_sum, ← real_mul_sum _ _ _ hc.le]
    exact Finset.sum_congr rfl fun j _ => e j
  have e3 : (∑ j, Ideal.exp (r j : EReal)) = ((∑ j, Real.exp (r j) : ℝ) : EReal) := real_sum _ _
  rw [hμ, e1, e2, e3, Ideal.div_coe (mul_pos hc hL).ne', Ideal.div_coe hL.ne', mul_comm (Real.exp (-μ) : EReal), mul_assoc, ← EReal.coe_mul]
  congr 2
  field_simp

end Cert.Hand

end
-- ==== Proof.Devices.lean ====
/-
# The kernel's result is the reference's

Device `e` holds columns `1024 * e …` of the projections' weights, which are heads `8 * e …`, and the rows of the output
weight that belong to them. So its attention output is columns `1024 * e …` of the reference's, and the devices' partial
products sum to the reference's product.
-/
module

public import proofs.«01_k».proof.Proof.Heads
public import proofs.«01_k».proof.Proof.Reference
public import proofs.«01_k».proof.Proof.Shift

@[expose] public section

set_option maxRecDepth 16384

noncomputable section

namespace Cert.Hand

open Idealize.ShloMosaic
open Cert.KernelIdeal (S1x256x1024 S1024x1024 S256x1024)
open Cert.KernelIdeal.Gen (k0_pay10)
open Cert.KernelIdeal.Hand (heads wgt hd σ)
open Cert.ReferenceIdeal (S1024x4096 S4096x1024)
open Cert.ReferenceIdeal.Hand (proj scores top weights alpha sums mixed joined attended)

/-! ## Real values -/

/-- A real number, not an infinity. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {ι : Type} (s : Finset ι) (f : ι → EReal) (h : ∀ j, IsReal (f j)) : IsReal (∑ j ∈ s, f j) := by
  choose r hr using h
  exact ⟨∑ j ∈ s, r j, by rw [← real_sum]; exact Finset.sum_congr rfl fun j _ => hr j⟩

theorem real_σ : IsReal σ := by
  unfold σ IsReal
  simp [Ideal.ofBits, Ideal.ieee, -EReal.coe_mul]

theorem real_of_abs {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-! ## One device's heads -/

section Device
variable (X : FVec Ideal S1x256x1024 .f32) (WQ WK WV : FVec Ideal S1024x4096 .f32) (e : Fin 4) (wq wk wv : FVec Ideal S1024x1024 .f32)

/-- `w` is block `e` of the columns of `W`. -/
def Cols (W : FVec Ideal S1024x4096 .f32) (e : Fin 4) (w : FVec Ideal S1024x1024 .f32) : Prop :=
  ∀ k n : Fin 1024, w (ix2 k n) = W (ix2 k ⟨1024 * e.val + n.val, by omega⟩)

variable {X WQ WK WV e wq wk wv}

theorem proj_dev (hq : Cols WQ e wq) (i : Fin 256) (n : Fin 1024) (h : Fin 32) (d : Fin 128) (hn : 1024 * e.val + n.val = h.val * 128 + d.val) :
    k0_pay10 X wq (ix2 i n) = proj X WQ (ix4 0 i h d) := by
  rw [Cert.KernelIdeal.Hand.proj_apply, Cert.ReferenceIdeal.Hand.proj_apply]
  refine Finset.sum_congr rfl fun k _ => ?_
  rw [hq]
  exact congrArg (fun a => X (ix3 0 i k) * WQ (ix2 k a)) (Fin.ext hn)

/-- The scaled score of query row `i` and key row `j` in a device's head `b`. -/
def kscore (q k : FVec Ideal S256x1024 .f32) (b : Fin 8) (i j : Fin 256) : EReal :=
  (∑ d : Fin 128, q (ix2 i ⟨128 * b.val + d.val, by omega⟩) * k (ix2 j ⟨128 * b.val + d.val, by omega⟩)) * σ

theorem score_dev (hq : Cols WQ e wq) (hk : Cols WK e wk) (b : Fin 8) (h : Fin 32) (hh : h.val = 8 * e.val + b.val) (i j : Fin 256) :
    kscore (k0_pay10 X wq) (k0_pay10 X wk) b i j
      = scores (proj X WQ) (proj X WK) (ix4 0 h i j) := by
  rw [Cert.ReferenceIdeal.Hand.scores_apply]
  unfold kscore
  refine congrArg (· * σ) (Finset.sum_congr rfl fun d _ => ?_)
  rw [proj_dev hq i _ h d (by dsimp only; omega), proj_dev hk j _ h d (by dsimp only; omega)]

theorem score_real (hX : ∀ i k, IsReal (X (ix3 0 i k))) (hq : ∀ k n, IsReal (wq (ix2 k n))) (hk : ∀ k n, IsReal (wk (ix2 k n))) (b : Fin 8) (i j : Fin 256) :
    IsReal (kscore (k0_pay10 X wq) (k0_pay10 X wk) b i j) := by
  unfold kscore
  refine (IsReal.sum _ _ fun d => ?_).mul real_σ
  rw [Cert.KernelIdeal.Hand.proj_apply, Cert.KernelIdeal.Hand.proj_apply]
  exact (IsReal.sum _ _ fun k => (hX i k).mul (hq k _)).mul (IsReal.sum _ _ fun k => (hX j k).mul (hk k _))

theorem attended_dev (hX : ∀ i k, IsReal (X (ix3 0 i k))) (rq : ∀ k n, IsReal (wq (ix2 k n))) (rk : ∀ k n, IsReal (wk (ix2 k n)))
    (hq : Cols WQ e wq) (hk : Cols WK e wk) (hv : Cols WV e wv) (i : Fin 256) (n : Fin 1024) :
    heads (k0_pay10 X wq) (k0_pay10 X wk) (k0_pay10 X wv) (ix2 i n)
      = attended (proj X WQ) (proj X WK) (proj X WV) (ix3 0 i ⟨1024 * e.val + n.val, by omega⟩) := by
  have hh : (1024 * e.val + n.val) / 128 = 8 * e.val + n.val / 128 := by omega
  unfold attended
  rw [Cert.KernelIdeal.Hand.heads_apply, Cert.ReferenceIdeal.Hand.joined_apply, Cert.ReferenceIdeal.Hand.mixed_apply, Cert.ReferenceIdeal.Hand.sums_apply]
  simp only [Cert.ReferenceIdeal.Hand.weights_apply, Cert.ReferenceIdeal.Hand.top_apply]
  generalize hH : (⟨(1024 * e.val + n.val) / 128, by omega⟩ : Fin 32) = H
  have hb : H.val = 8 * e.val + (hd n).val := by rw [← hH]; exact hh
  have hs (j : Fin 256) : ∃ r : ℝ, scores (proj X WQ) (proj X WK) (ix4 0 H i j) = (r : EReal) := by
    rw [← score_dev hq hk (hd n) H hb i j]
    exact score_real hX rq rk (hd n) i j
  choose r hr using hs
  have hw (j : Fin 256) : wgt (k0_pay10 X wq) (k0_pay10 X wk) (hd n) i j = Ideal.exp (r j : EReal) := by
    rw [← hr, ← score_dev hq hk (hd n) H hb i j]
    rfl
  have hvv (j : Fin 256) : k0_pay10 X wv (ix2 j n) = proj X WV (ix4 0 j H ⟨(1024 * e.val + n.val) % 128, by omega⟩) :=
    proj_dev hv j n H _ (by rw [← hH]; dsimp only; omega)
  simp only [hr, hw, hvv]
  exact (shift r _).symm

end Device

end Cert.Hand

end
-- ==== Proof.Algebraic.lean ====
/-
# The value claim

With finite inputs, queries' and keys' weights, every device of the kernel ends with the reference's result.
-/
module

public import proofs.«01_k».proof.Proof.Frames
public import proofs.«01_k».proof.Proof.Values
public import proofs.«01_k».proof.Proof.Devices

@[expose] public section

set_option maxRecDepth 16384

noncomputable section

namespace Cert.Proof

open Idealize.ShloMosaic Idealize.ShloMosaic.TcCoe Idealize.SL.Sem

/-! ## The precondition's own facts -/

instance pre_kernel : Cert.Pre_scores_finite_inputs_KernelIdeal.Facts := ⟨by decide, by decide⟩
instance pre_reference : Cert.Pre_scores_finite_inputs_ReferenceIdeal.Facts := ⟨by decide, by decide⟩

theorem frame_ideal_pre : Cert.quiescent_KernelIdeal_pre_scores_finite_inputs_KernelIdeal := fun m ρ _ => frame_ideal m ρ trivial
theorem frame_reference_pre : Cert.quiescent_ReferenceIdeal_pre_scores_finite_inputs_ReferenceIdeal := fun m ρ _ => frame_reference m ρ trivial

/-! ## Blocks of the weights -/

theorem block_cols (W : FVec Ideal Cert.ReferenceIdeal.S1024x4096 .f32) (e : Fin 4) :
    Cert.Hand.Cols W e (Layout.block ⟨2, ![1024, 1024]⟩ ⟨2, ![1024, 4096]⟩ 1 4 e W) := fun k n =>
  congrArg W (funext fun a => by
    fin_cases a
    · exact Fin.ext rfl
    · exact Fin.ext (by show e.val * 1024 + n.val = 1024 * e.val + n.val; omega))

theorem block_rows (W : FVec Ideal Cert.ReferenceIdeal.S4096x1024 .f32) (e : Fin 4) (k n : Fin 1024) :
    (Layout.block ⟨2, ![1024, 1024]⟩ ⟨2, ![4096, 1024]⟩ 0 4 e W : FVec Ideal Cert.KernelIdeal.S1024x1024 .f32) (ix2 k n) = W (ix2 ⟨1024 * e.val + k.val, by omega⟩ n) :=
  congrArg W (funext fun a => by
    fin_cases a
    · exact Fin.ext (by show e.val * 1024 + k.val = 1024 * e.val + k.val; omega)
    · exact Fin.ext rfl)

/-- A sum over 4096 rows, device by device. -/
theorem sum_devices (f : Fin 4096 → EReal) : ∑ K : Fin 4096, f K = ∑ e : Fin 4, ∑ k : Fin 1024, f ⟨1024 * e.val + k.val, by omega⟩ := by
  rw [← Fintype.sum_prod_type', ← (finProdFinEquiv (m := 4) (n := 1024)).sum_comp]
  exact Finset.sum_congr rfl fun p _ => congrArg f (Fin.ext (Nat.add_comm _ _))

/-! ## The two results -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- An array of the kernel's device `c`; -/
abbrev kArr (c : Dev Cert.KernelIdeal.nD) (b : Ref Cert.KernelIdeal.sig .tc) := m ((c.tc : Thread Cert.KernelIdeal.nD Cert.KernelIdeal.τ).loc b)
/-- of the reference. -/
abbrev rArr (b : Ref Cert.ReferenceIdeal.sig .tc) := m' (((0 : Dev Cert.ReferenceIdeal.nD).tc : Thread Cert.ReferenceIdeal.nD Cert.ReferenceIdeal.τ).loc b)

/-- The reference's attention output. -/
def rOut : FVec Ideal Cert.ReferenceIdeal.S1x256x4096 .f32 :=
  Cert.ReferenceIdeal.Hand.attended (F := Ideal)
    (Cert.ReferenceIdeal.Hand.proj (F := Ideal) (rArr m' Cert.ReferenceIdeal.main_arg0) (rArr m' Cert.ReferenceIdeal.main_arg1))
    (Cert.ReferenceIdeal.Hand.proj (F := Ideal) (rArr m' Cert.ReferenceIdeal.main_arg0) (rArr m' Cert.ReferenceIdeal.main_arg2))
    (Cert.ReferenceIdeal.Hand.proj (F := Ideal) (rArr m' Cert.ReferenceIdeal.main_arg0) (rArr m' Cert.ReferenceIdeal.main_arg3))

variable {m m'}

theorem finite (hp : Pre_KernelIdeal_scores_finite_inputs_KernelIdeal m) (c : Dev Cert.KernelIdeal.nD) :
    (∀ i k, Cert.Hand.IsReal ((kArr m c Cert.KernelIdeal.main_arg0 : FVec Ideal Cert.KernelIdeal.S1x256x1024 .f32) (ix3 0 i k)))
    ∧ (∀ k n, Cert.Hand.IsReal ((kArr m c Cert.KernelIdeal.main_arg1 : FVec Ideal Cert.KernelIdeal.S1024x1024 .f32) (ix2 k n)))
    ∧ (∀ k n, Cert.Hand.IsReal ((kArr m c Cert.KernelIdeal.main_arg2 : FVec Ideal Cert.KernelIdeal.S1024x1024 .f32) (ix2 k n))) :=
  ⟨fun i k => Cert.Hand.real_of_abs (congrFun (hp c).1 (ix3 0 i k)), fun k n => Cert.Hand.real_of_abs (congrFun (hp c).2.1 (ix2 k n)),
    fun k n => Cert.Hand.real_of_abs (congrFun (hp c).2.2 (ix2 k n))⟩

theorem part_eq (hp : Pre_KernelIdeal_scores_finite_inputs_KernelIdeal m) (c : Dev Cert.KernelIdeal.nD)
    (h0 : kArr m c Cert.KernelIdeal.main_arg0 = rArr m' Cert.ReferenceIdeal.main_arg0)
    (h1 : kArr m c Cert.KernelIdeal.main_arg1 = Layout.block ⟨2, ![1024, 1024]⟩ ⟨2, ![1024, 4096]⟩ 1 4 c (rArr m' Cert.ReferenceIdeal.main_arg1))
    (h2 : kArr m c Cert.KernelIdeal.main_arg2 = Layout.block ⟨2, ![1024, 1024]⟩ ⟨2, ![1024, 4096]⟩ 1 4 c (rArr m' Cert.ReferenceIdeal.main_arg2))
    (h3 : kArr m c Cert.KernelIdeal.main_arg3 = Layout.block ⟨2, ![1024, 1024]⟩ ⟨2, ![1024, 4096]⟩ 1 4 c (rArr m' Cert.ReferenceIdeal.main_arg3))
    (h4 : kArr m c Cert.KernelIdeal.main_arg4 = Layout.block ⟨2, ![1024, 1024]⟩ ⟨2, ![4096, 1024]⟩ 0 4 c (rArr m' Cert.ReferenceIdeal.main_arg4))
    (i : Fin 256) (n : Fin 1024) :
    Cert.KernelIdeal.Hand.part m c i n = ∑ k : Fin 1024,
      rOut m' (ix3 0 i ⟨1024 * Fin.val c + k.val, by have : Fin.val c < 4 := c.isLt; omega⟩)
        * (rArr m' Cert.ReferenceIdeal.main_arg4 : FVec Ideal Cert.ReferenceIdeal.S4096x1024 .f32) (ix2 ⟨1024 * Fin.val c + k.val, by have : Fin.val c < 4 := c.isLt; omega⟩ n) := by
  obtain ⟨fx, fq, fk⟩ := finite hp c
  unfold Cert.KernelIdeal.Hand.part
  refine Finset.sum_congr rfl fun k _ => ?_
  rw [Cert.KernelIdeal.Hand.attn_eq]
  unfold Cert.KernelIdeal.Hand.qv Cert.KernelIdeal.Hand.kv Cert.KernelIdeal.Hand.vv
  rw [Cert.KernelIdeal.Hand.pay11_eq, Cert.KernelIdeal.Hand.pay12_eq, Cert.KernelIdeal.Hand.xv_eq, Cert.KernelIdeal.Hand.wqv_eq, Cert.KernelIdeal.Hand.wkv_eq,
    Cert.KernelIdeal.Hand.wvv_eq, Cert.KernelIdeal.Hand.wov_eq]
  unfold kArr at h0 h1 h2 h3 h4 fx fq fk
  rw [h0] at fx
  rw [h1] at fq
  rw [h2] at fk
  rw [h0, h1, h2, h3, h4]
  refine congrArg₂ (fun a b : EReal => a * b) (Cert.Hand.attended_dev fx fq fk (block_cols _ c) (block_cols _ c) (block_cols _ c) i k) ?_
  exact block_rows _ c k n

theorem out_eq (hp : Pre_KernelIdeal_scores_finite_inputs_KernelIdeal m)
    (h : ∀ c : Dev Cert.KernelIdeal.nD, kArr m c Cert.KernelIdeal.main_arg0 = rArr m' Cert.ReferenceIdeal.main_arg0
      ∧ kArr m c Cert.KernelIdeal.main_arg1 = Layout.block ⟨2, ![1024, 1024]⟩ ⟨2, ![1024, 4096]⟩ 1 4 c (rArr m' Cert.ReferenceIdeal.main_arg1)
      ∧ kArr m c Cert.KernelIdeal.main_arg2 = Layout.block ⟨2, ![1024, 1024]⟩ ⟨2, ![1024, 4096]⟩ 1 4 c (rArr m' Cert.ReferenceIdeal.main_arg2)
      ∧ kArr m c Cert.KernelIdeal.main_arg3 = Layout.block ⟨2, ![1024, 1024]⟩ ⟨2, ![1024, 4096]⟩ 1 4 c (rArr m' Cert.ReferenceIdeal.main_arg3)
      ∧ kArr m c Cert.KernelIdeal.main_arg4 = Layout.block ⟨2, ![1024, 1024]⟩ ⟨2, ![4096, 1024]⟩ 0 4 c (rArr m' Cert.ReferenceIdeal.main_arg4))
    (c : Dev Cert.KernelIdeal.nD) : Cert.KernelIdeal.Hand.outAt m c = Cert.ReferenceIdeal.Value.res_main_v34 m' 0 := by
  have key (i : Fin 256) (n : Fin 1024) : Cert.KernelIdeal.Hand.outAt m c (ix3 0 i n) = Cert.ReferenceIdeal.Value.res_main_v34 m' 0 (ix3 0 i n) := by
    have e₁ : (∑ e : Fin 4, Cert.KernelIdeal.Hand.part m e i n : EReal)
        = ∑ K : Fin 4096, rOut m' (ix3 0 i K) * (rArr m' Cert.ReferenceIdeal.main_arg4 : FVec Ideal Cert.ReferenceIdeal.S4096x1024 .f32) (ix2 K n) :=
      (Finset.sum_congr rfl fun e _ => part_eq hp e (h e).1 (h e).2.1 (h e).2.2.1 (h e).2.2.2.1 (h e).2.2.2.2 i n).trans
        (sum_devices fun K => rOut m' (ix3 0 i K) * (rArr m' Cert.ReferenceIdeal.main_arg4 : FVec Ideal Cert.ReferenceIdeal.S4096x1024 .f32) (ix2 K n)).symm
    have e₂ := Cert.ReferenceIdeal.Hand.out_apply (rOut m') (rArr m' Cert.ReferenceIdeal.main_arg4) i n
    exact (Cert.KernelIdeal.Hand.outAt_apply m c i n).trans ((e₁.trans e₂.symm).trans (congrFun (Cert.ReferenceIdeal.Hand.res_eq m' 0) (ix3 0 i n)).symm)
  funext x
  have hx : x = (ix3 0 (x 1) (x 2) : Cert.KernelIdeal.S1x256x1024.Idx) := funext fun a => by
    fin_cases a
    · exact Fin.ext (Nat.lt_one_iff.mp (x 0).isLt)
    · rfl
    · rfl
  exact (congrArg _ hx).trans ((key _ _).trans (congrArg (Cert.ReferenceIdeal.Value.res_main_v34 m' 0) hx.symm))

/-- Both programs run, and every device of the kernel ends with the reference's result. -/
theorem value : Cert.algebraic_KernelIdeal_ReferenceIdeal_pre_scores_finite_inputs_KernelIdeal := fun m g m' g' hp h =>
  ⟨Cert.ReferenceIdeal.Value.res_main_v34 m' 0,
    (θ_run Cert.KernelIdeal.defs _ _).mono (fun r hr c => ⟨(hr.1 c).1.trans ((Cert.KernelIdeal.Hand.finalA_out m g c).trans (out_eq hp h c)), (hr.1 c).2⟩)
      (run_kernel (F := Ideal) m g),
    (θ_run Cert.ReferenceIdeal.defs _ _).mono (fun r hr => hr 0) (Cert.ReferenceIdeal.Value.run (F := Ideal) m' g')⟩

end

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, pre_kernel, pre_reference,
  frame_kernel, frame_ideal, frame_ideal_pre, frame_reference, frame_reference_pre, trivial, value⟩

end Cert.Proof

end
